-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 16384]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨1, ![1024]⟩ ⟨1, ![16384]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.block ⟨2, ![4096, 1024]⟩ ⟨2, ![4096, 16384]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S1024 : Shape := ⟨1, ![1024]⟩
abbrev S1x1024 : Shape := ⟨2, ![1, 1024]⟩
abbrev S4096x1 : Shape := ⟨2, ![4096, 1]⟩
abbrev S1024x1024 : Shape := ⟨2, ![1024, 1024]⟩
abbrev S16x4096 : Shape := ⟨2, ![16, 4096]⟩
abbrev S16x2 : Shape := ⟨2, ![16, 2]⟩
abbrev S_ : Shape := ⟨0, ![]⟩
abbrev S1x1 : Shape := ⟨2, ![1, 1]⟩
abbrev S1x3072 : Shape := ⟨2, ![1, 3072]⟩
abbrev S16x1 : Shape := ⟨2, ![16, 1]⟩
abbrev S16x3072 : Shape := ⟨2, ![16, 3072]⟩
abbrev S3072x1 : Shape := ⟨2, ![3072, 1]⟩
abbrev S16x1024 : Shape := ⟨2, ![16, 1024]⟩
abbrev S1024x1 : Shape := ⟨2, ![1024, 1]⟩

abbrev nBuf : Space → Nat
  | .hbm => 5
  | .vmem => 8
  | .smem => 0
  | _ => 0

abbrev bufTy : (tb : Table) → Fin (tcTables nBuf tb) → BufTy
  | .hbm, ⟨0, _⟩ => ⟨S4096x1024, .f32⟩
  | .hbm, ⟨1, _⟩ => ⟨S1024, .f32⟩
  | .hbm, ⟨2, _⟩ => ⟨S1x1024, .f32⟩
  | .hbm, ⟨3, _⟩ => ⟨S4096x1, .f32⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S4096x1, .f32⟩
  | .local _ .vmem, ⟨3, _⟩ => ⟨S16x4096, .f32⟩
  | .local _ .vmem, ⟨4, _⟩ => ⟨S4096x1024, .f32⟩
  | .local _ .vmem, ⟨5, _⟩ => ⟨S1x1024, .f32⟩
  | .local _ .vmem, ⟨6, _⟩ => ⟨S4096x1, .f32⟩
  | .local _ .vmem, ⟨7, _⟩ => ⟨S4096x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_scratch0 : Ref sig .tc := ⟨.vmem, 3, rfl⟩
abbrev cc1_stg0_0 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg3_0 : Ref sig .tc := ⟨.vmem, 7, rfl⟩
abbrev cc0_sem0_0 : DmaSem sig := 0
abbrev cc0_sem0_1 : DmaSem sig := 1
abbrev cc0_sem1_0 : DmaSem sig := 2
abbrev cc1_sem0_0 : DmaSem sig := 67
abbrev cc1_sem1_0 : DmaSem sig := 68
abbrev cc1_sem2_0 : DmaSem sig := 69
abbrev cc1_sem3_0 : DmaSem sig := 70
abbrev barrier0 : Sem sig := 0

abbrev nD : Nat := 16
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v24 : BitVec 1 := Scalar.cmpi .ne v2 c0_i32_5
  let v25 : BitVec 32 := Scalar.extui v24
  let c0_i32_6 : BitVec 32 := 0#32
  let v26 : BitVec 1 := Scalar.cmpi .ne v25 c0_i32_6
  v26

def k0_dev1 : Nat :=
  let c0_i32_28 : BitVec 32 := 0#32
  let c0_i32_26 : BitVec 32 := 0#32
  let c1_i32_27 : BitVec 32 := 1#32
  let v72 : BitVec 32 := Scalar.muli c0_i32_26 c1_i32_27
  let v73 : BitVec 32 := Scalar.addi c0_i32_28 v72
  v73.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v27 : BitVec 1 := Scalar.cmpi .ne v2 c1_i32_7
  let v28 : BitVec 32 := Scalar.extui v27
  let c0_i32_8 : BitVec 32 := 0#32
  let v29 : BitVec 1 := Scalar.cmpi .ne v28 c0_i32_8
  v29

def k0_dev2 : Nat :=
  let c0_i32_28 : BitVec 32 := 0#32
  let c1_i32_26 : BitVec 32 := 1#32
  let c1_i32_27 : BitVec 32 := 1#32
  let v72 : BitVec 32 := Scalar.muli c1_i32_26 c1_i32_27
  let v73 : BitVec 32 := Scalar.addi c0_i32_28 v72
  v73.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_9 : BitVec 32 := 2#32
  let v30 : BitVec 1 := Scalar.cmpi .ne v2 c2_i32_9
  let v31 : BitVec 32 := Scalar.extui v30
  let c0_i32_10 : BitVec 32 := 0#32
  let v32 : BitVec 1 := Scalar.cmpi .ne v31 c0_i32_10
  v32

def k0_dev3 : Nat :=
  let c0_i32_28 : BitVec 32 := 0#32
  let c2_i32_26 : BitVec 32 := 2#32
  let c1_i32_27 : BitVec 32 := 1#32
  let v72 : BitVec 32 := Scalar.muli c2_i32_26 c1_i32_27
  let v73 : BitVec 32 := Scalar.addi c0_i32_28 v72
  v73.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_11 : BitVec 32 := 3#32
  let v33 : BitVec 1 := Scalar.cmpi .ne v2 c3_i32_11
  let v34 : BitVec 32 := Scalar.extui v33
  let c0_i32_12 : BitVec 32 := 0#32
  let v35 : BitVec 1 := Scalar.cmpi .ne v34 c0_i32_12
  v35

def k0_dev4 : Nat :=
  let c0_i32_28 : BitVec 32 := 0#32
  let c3_i32_26 : BitVec 32 := 3#32
  let c1_i32_27 : BitVec 32 := 1#32
  let v72 : BitVec 32 := Scalar.muli c3_i32_26 c1_i32_27
  let v73 : BitVec 32 := Scalar.addi c0_i32_28 v72
  v73.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v36 : BitVec 1 := Scalar.cmpi .ne v2 c4_i32
  let v37 : BitVec 32 := Scalar.extui v36
  let c0_i32_13 : BitVec 32 := 0#32
  let v38 : BitVec 1 := Scalar.cmpi .ne v37 c0_i32_13
  v38

def k0_dev5 : Nat :=
  let c0_i32_28 : BitVec 32 := 0#32
  let c4_i32_26 : BitVec 32 := 4#32
  let c1_i32_27 : BitVec 32 := 1#32
  let v72 : BitVec 32 := Scalar.muli c4_i32_26 c1_i32_27
  let v73 : BitVec 32 := Scalar.addi c0_i32_28 v72
  v73.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v39 : BitVec 1 := Scalar.cmpi .ne v2 c5_i32
  let v40 : BitVec 32 := Scalar.extui v39
  let c0_i32_14 : BitVec 32 := 0#32
  let v41 : BitVec 1 := Scalar.cmpi .ne v40 c0_i32_14
  v41

def k0_dev6 : Nat :=
  let c0_i32_28 : BitVec 32 := 0#32
  let c5_i32_26 : BitVec 32 := 5#32
  let c1_i32_27 : BitVec 32 := 1#32
  let v72 : BitVec 32 := Scalar.muli c5_i32_26 c1_i32_27
  let v73 : BitVec 32 := Scalar.addi c0_i32_28 v72
  v73.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v42 : BitVec 1 := Scalar.cmpi .ne v2 c6_i32
  let v43 : BitVec 32 := Scalar.extui v42
  let c0_i32_15 : BitVec 32 := 0#32
  let v44 : BitVec 1 := Scalar.cmpi .ne v43 c0_i32_15
  v44

def k0_dev7 : Nat :=
  let c0_i32_28 : BitVec 32 := 0#32
  let c6_i32_26 : BitVec 32 := 6#32
  let c1_i32_27 : BitVec 32 := 1#32
  let v72 : BitVec 32 := Scalar.muli c6_i32_26 c1_i32_27
  let v73 : BitVec 32 := Scalar.addi c0_i32_28 v72
  v73.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v45 : BitVec 1 := Scalar.cmpi .ne v2 c7_i32
  let v46 : BitVec 32 := Scalar.extui v45
  let c0_i32_16 : BitVec 32 := 0#32
  let v47 : BitVec 1 := Scalar.cmpi .ne v46 c0_i32_16
  v47

def k0_dev8 : Nat :=
  let c0_i32_28 : BitVec 32 := 0#32
  let c7_i32_26 : BitVec 32 := 7#32
  let c1_i32_27 : BitVec 32 := 1#32
  let v72 : BitVec 32 := Scalar.muli c7_i32_26 c1_i32_27
  let v73 : BitVec 32 := Scalar.addi c0_i32_28 v72
  v73.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 1 := Scalar.cmpi .ne v2 c8_i32
  let v49 : BitVec 32 := Scalar.extui v48
  let c0_i32_17 : BitVec 32 := 0#32
  let v50 : BitVec 1 := Scalar.cmpi .ne v49 c0_i32_17
  v50

def k0_dev9 : Nat :=
  let c0_i32_28 : BitVec 32 := 0#32
  let c8_i32_26 : BitVec 32 := 8#32
  let c1_i32_27 : BitVec 32 := 1#32
  let v72 : BitVec 32 := Scalar.muli c8_i32_26 c1_i32_27
  let v73 : BitVec 32 := Scalar.addi c0_i32_28 v72
  v73.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v51 : BitVec 1 := Scalar.cmpi .ne v2 c9_i32
  let v52 : BitVec 32 := Scalar.extui v51
  let c0_i32_18 : BitVec 32 := 0#32
  let v53 : BitVec 1 := Scalar.cmpi .ne v52 c0_i32_18
  v53

def k0_dev10 : Nat :=
  let c0_i32_28 : BitVec 32 := 0#32
  let c9_i32_26 : BitVec 32 := 9#32
  let c1_i32_27 : BitVec 32 := 1#32
  let v72 : BitVec 32 := Scalar.muli c9_i32_26 c1_i32_27
  let v73 : BitVec 32 := Scalar.addi c0_i32_28 v72
  v73.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v54 : BitVec 1 := Scalar.cmpi .ne v2 c10_i32
  let v55 : BitVec 32 := Scalar.extui v54
  let c0_i32_19 : BitVec 32 := 0#32
  let v56 : BitVec 1 := Scalar.cmpi .ne v55 c0_i32_19
  v56

def k0_dev11 : Nat :=
  let c0_i32_28 : BitVec 32 := 0#32
  let c10_i32_26 : BitVec 32 := 10#32
  let c1_i32_27 : BitVec 32 := 1#32
  let v72 : BitVec 32 := Scalar.muli c10_i32_26 c1_i32_27
  let v73 : BitVec 32 := Scalar.addi c0_i32_28 v72
  v73.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v57 : BitVec 1 := Scalar.cmpi .ne v2 c11_i32
  let v58 : BitVec 32 := Scalar.extui v57
  let c0_i32_20 : BitVec 32 := 0#32
  let v59 : BitVec 1 := Scalar.cmpi .ne v58 c0_i32_20
  v59

def k0_dev12 : Nat :=
  let c0_i32_28 : BitVec 32 := 0#32
  let c11_i32_26 : BitVec 32 := 11#32
  let c1_i32_27 : BitVec 32 := 1#32
  let v72 : BitVec 32 := Scalar.muli c11_i32_26 c1_i32_27
  let v73 : BitVec 32 := Scalar.addi c0_i32_28 v72
  v73.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v60 : BitVec 1 := Scalar.cmpi .ne v2 c12_i32
  let v61 : BitVec 32 := Scalar.extui v60
  let c0_i32_21 : BitVec 32 := 0#32
  let v62 : BitVec 1 := Scalar.cmpi .ne v61 c0_i32_21
  v62

def k0_dev13 : Nat :=
  let c0_i32_28 : BitVec 32 := 0#32
  let c12_i32_26 : BitVec 32 := 12#32
  let c1_i32_27 : BitVec 32 := 1#32
  let v72 : BitVec 32 := Scalar.muli c12_i32_26 c1_i32_27
  let v73 : BitVec 32 := Scalar.addi c0_i32_28 v72
  v73.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v63 : BitVec 1 := Scalar.cmpi .ne v2 c13_i32
  let v64 : BitVec 32 := Scalar.extui v63
  let c0_i32_22 : BitVec 32 := 0#32
  let v65 : BitVec 1 := Scalar.cmpi .ne v64 c0_i32_22
  v65

def k0_dev14 : Nat :=
  let c0_i32_28 : BitVec 32 := 0#32
  let c13_i32_26 : BitVec 32 := 13#32
  let c1_i32_27 : BitVec 32 := 1#32
  let v72 : BitVec 32 := Scalar.muli c13_i32_26 c1_i32_27
  let v73 : BitVec 32 := Scalar.addi c0_i32_28 v72
  v73.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v66 : BitVec 1 := Scalar.cmpi .ne v2 c14_i32
  let v67 : BitVec 32 := Scalar.extui v66
  let c0_i32_23 : BitVec 32 := 0#32
  let v68 : BitVec 1 := Scalar.cmpi .ne v67 c0_i32_23
  v68

def k0_dev15 : Nat :=
  let c0_i32_28 : BitVec 32 := 0#32
  let c14_i32_26 : BitVec 32 := 14#32
  let c1_i32_27 : BitVec 32 := 1#32
  let v72 : BitVec 32 := Scalar.muli c14_i32_26 c1_i32_27
  let v73 : BitVec 32 := Scalar.addi c0_i32_28 v72
  v73.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v69 : BitVec 1 := Scalar.cmpi .ne v2 c15_i32
  let v70 : BitVec 32 := Scalar.extui v69
  let c0_i32_24 : BitVec 32 := 0#32
  let v71 : BitVec 1 := Scalar.cmpi .ne v70 c0_i32_24
  v71

def k0_dev16 : Nat :=
  let c0_i32_28 : BitVec 32 := 0#32
  let c15_i32_26 : BitVec 32 := 15#32
  let c1_i32_27 : BitVec 32 := 1#32
  let v72 : BitVec 32 := Scalar.muli c15_i32_26 c1_i32_27
  let v73 : BitVec 32 := Scalar.addi c0_i32_28 v72
  v73.toNat
def k0_off1 (i : grid0.Coords) (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v12 : Index := Scalar.indexCast v2
  let arg0 : BitVec 32 := BitVec.ofNat 32 (i 0).val
  let c1024_i32 : BitVec 32 := 1024#32
  let v11 : BitVec 32 := Scalar.muli arg0 c1024_i32
  let v13 : Index := Scalar.indexCast v11
  ![v12.toNat, v13.toNat]
def k0_cond18 (i : grid0.Coords) : BitVec 1 :=
  let arg0 : BitVec 32 := BitVec.ofNat 32 (i 0).val
  let c2_i32 : BitVec 32 := 2#32
  let v17 : BitVec 1 := Scalar.cmpi .eq arg0 c2_i32
  let v18 : BitVec 32 := Scalar.extui v17
  let c0_i32_3 : BitVec 32 := 0#32
  let v19 : BitVec 1 := Scalar.cmpi .ne v18 c0_i32_3
  v19

def k0_cond19 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v24 : BitVec 1 := Scalar.cmpi .ne v2 c0_i32_5
  let v25 : BitVec 32 := Scalar.extui v24
  let c0_i32_6 : BitVec 32 := 0#32
  let v26 : BitVec 1 := Scalar.cmpi .ne v25 c0_i32_6
  v26

def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev17 : Nat :=
  let c0_i32_31 : BitVec 32 := 0#32
  let c0_i32_29 : BitVec 32 := 0#32
  let c1_i32_30 : BitVec 32 := 1#32
  let v72 : BitVec 32 := Scalar.muli c0_i32_29 c1_i32_30
  let v73 : BitVec 32 := Scalar.addi c0_i32_31 v72
  v73.toNat
def k0_cond20 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v27 : BitVec 1 := Scalar.cmpi .ne v2 c1_i32_7
  let v28 : BitVec 32 := Scalar.extui v27
  let c0_i32_8 : BitVec 32 := 0#32
  let v29 : BitVec 1 := Scalar.cmpi .ne v28 c0_i32_8
  v29

def k0_off4 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off5 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev18 : Nat :=
  let c0_i32_31 : BitVec 32 := 0#32
  let c1_i32_29 : BitVec 32 := 1#32
  let c1_i32_30 : BitVec 32 := 1#32
  let v72 : BitVec 32 := Scalar.muli c1_i32_29 c1_i32_30
  let v73 : BitVec 32 := Scalar.addi c0_i32_31 v72
  v73.toNat
def k0_cond21 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_9 : BitVec 32 := 2#32
  let v30 : BitVec 1 := Scalar.cmpi .ne v2 c2_i32_9
  let v31 : BitVec 32 := Scalar.extui v30
  let c0_i32_10 : BitVec 32 := 0#32
  let v32 : BitVec 1 := Scalar.cmpi .ne v31 c0_i32_10
  v32

def k0_off6 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off7 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev19 : Nat :=
  let c0_i32_31 : BitVec 32 := 0#32
  let c2_i32_29 : BitVec 32 := 2#32
  let c1_i32_30 : BitVec 32 := 1#32
  let v72 : BitVec 32 := Scalar.muli c2_i32_29 c1_i32_30
  let v73 : BitVec 32 := Scalar.addi c0_i32_31 v72
  v73.toNat
def k0_cond22 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_11 : BitVec 32 := 3#32
  let v33 : BitVec 1 := Scalar.cmpi .ne v2 c3_i32_11
  let v34 : BitVec 32 := Scalar.extui v33
  let c0_i32_12 : BitVec 32 := 0#32
  let v35 : BitVec 1 := Scalar.cmpi .ne v34 c0_i32_12
  v35

def k0_off8 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off9 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev20 : Nat :=
  let c0_i32_31 : BitVec 32 := 0#32
  let c3_i32_29 : BitVec 32 := 3#32
  let c1_i32_30 : BitVec 32 := 1#32
  let v72 : BitVec 32 := Scalar.muli c3_i32_29 c1_i32_30
  let v73 : BitVec 32 := Scalar.addi c0_i32_31 v72
  v73.toNat
def k0_cond23 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v36 : BitVec 1 := Scalar.cmpi .ne v2 c4_i32
  let v37 : BitVec 32 := Scalar.extui v36
  let c0_i32_13 : BitVec 32 := 0#32
  let v38 : BitVec 1 := Scalar.cmpi .ne v37 c0_i32_13
  v38

def k0_off10 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off11 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev21 : Nat :=
  let c0_i32_31 : BitVec 32 := 0#32
  let c4_i32_29 : BitVec 32 := 4#32
  let c1_i32_30 : BitVec 32 := 1#32
  let v72 : BitVec 32 := Scalar.muli c4_i32_29 c1_i32_30
  let v73 : BitVec 32 := Scalar.addi c0_i32_31 v72
  v73.toNat
def k0_cond24 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v39 : BitVec 1 := Scalar.cmpi .ne v2 c5_i32
  let v40 : BitVec 32 := Scalar.extui v39
  let c0_i32_14 : BitVec 32 := 0#32
  let v41 : BitVec 1 := Scalar.cmpi .ne v40 c0_i32_14
  v41

def k0_off12 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off13 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev22 : Nat :=
  let c0_i32_31 : BitVec 32 := 0#32
  let c5_i32_29 : BitVec 32 := 5#32
  let c1_i32_30 : BitVec 32 := 1#32
  let v72 : BitVec 32 := Scalar.muli c5_i32_29 c1_i32_30
  let v73 : BitVec 32 := Scalar.addi c0_i32_31 v72
  v73.toNat
def k0_cond25 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v42 : BitVec 1 := Scalar.cmpi .ne v2 c6_i32
  let v43 : BitVec 32 := Scalar.extui v42
  let c0_i32_15 : BitVec 32 := 0#32
  let v44 : BitVec 1 := Scalar.cmpi .ne v43 c0_i32_15
  v44

def k0_off14 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off15 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev23 : Nat :=
  let c0_i32_31 : BitVec 32 := 0#32
  let c6_i32_29 : BitVec 32 := 6#32
  let c1_i32_30 : BitVec 32 := 1#32
  let v72 : BitVec 32 := Scalar.muli c6_i32_29 c1_i32_30
  let v73 : BitVec 32 := Scalar.addi c0_i32_31 v72
  v73.toNat
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v45 : BitVec 1 := Scalar.cmpi .ne v2 c7_i32
  let v46 : BitVec 32 := Scalar.extui v45
  let c0_i32_16 : BitVec 32 := 0#32
  let v47 : BitVec 1 := Scalar.cmpi .ne v46 c0_i32_16
  v47

def k0_off16 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off17 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev24 : Nat :=
  let c0_i32_31 : BitVec 32 := 0#32
  let c7_i32_29 : BitVec 32 := 7#32
  let c1_i32_30 : BitVec 32 := 1#32
  let v72 : BitVec 32 := Scalar.muli c7_i32_29 c1_i32_30
  let v73 : BitVec 32 := Scalar.addi c0_i32_31 v72
  v73.toNat
def k0_cond27 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v48 : BitVec 1 := Scalar.cmpi .ne v2 c8_i32
  let v49 : BitVec 32 := Scalar.extui v48
  let c0_i32_17 : BitVec 32 := 0#32
  let v50 : BitVec 1 := Scalar.cmpi .ne v49 c0_i32_17
  v50

def k0_off18 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off19 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev25 : Nat :=
  let c0_i32_31 : BitVec 32 := 0#32
  let c8_i32_29 : BitVec 32 := 8#32
  let c1_i32_30 : BitVec 32 := 1#32
  let v72 : BitVec 32 := Scalar.muli c8_i32_29 c1_i32_30
  let v73 : BitVec 32 := Scalar.addi c0_i32_31 v72
  v73.toNat
def k0_cond28 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v51 : BitVec 1 := Scalar.cmpi .ne v2 c9_i32
  let v52 : BitVec 32 := Scalar.extui v51
  let c0_i32_18 : BitVec 32 := 0#32
  let v53 : BitVec 1 := Scalar.cmpi .ne v52 c0_i32_18
  v53

def k0_off20 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off21 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev26 : Nat :=
  let c0_i32_31 : BitVec 32 := 0#32
  let c9_i32_29 : BitVec 32 := 9#32
  let c1_i32_30 : BitVec 32 := 1#32
  let v72 : BitVec 32 := Scalar.muli c9_i32_29 c1_i32_30
  let v73 : BitVec 32 := Scalar.addi c0_i32_31 v72
  v73.toNat
def k0_cond29 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v54 : BitVec 1 := Scalar.cmpi .ne v2 c10_i32
  let v55 : BitVec 32 := Scalar.extui v54
  let c0_i32_19 : BitVec 32 := 0#32
  let v56 : BitVec 1 := Scalar.cmpi .ne v55 c0_i32_19
  v56

def k0_off22 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off23 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev27 : Nat :=
  let c0_i32_31 : BitVec 32 := 0#32
  let c10_i32_29 : BitVec 32 := 10#32
  let c1_i32_30 : BitVec 32 := 1#32
  let v72 : BitVec 32 := Scalar.muli c10_i32_29 c1_i32_30
  let v73 : BitVec 32 := Scalar.addi c0_i32_31 v72
  v73.toNat
def k0_cond30 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v57 : BitVec 1 := Scalar.cmpi .ne v2 c11_i32
  let v58 : BitVec 32 := Scalar.extui v57
  let c0_i32_20 : BitVec 32 := 0#32
  let v59 : BitVec 1 := Scalar.cmpi .ne v58 c0_i32_20
  v59

def k0_off24 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off25 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev28 : Nat :=
  let c0_i32_31 : BitVec 32 := 0#32
  let c11_i32_29 : BitVec 32 := 11#32
  let c1_i32_30 : BitVec 32 := 1#32
  let v72 : BitVec 32 := Scalar.muli c11_i32_29 c1_i32_30
  let v73 : BitVec 32 := Scalar.addi c0_i32_31 v72
  v73.toNat
def k0_cond31 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v60 : BitVec 1 := Scalar.cmpi .ne v2 c12_i32
  let v61 : BitVec 32 := Scalar.extui v60
  let c0_i32_21 : BitVec 32 := 0#32
  let v62 : BitVec 1 := Scalar.cmpi .ne v61 c0_i32_21
  v62

def k0_off26 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off27 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev29 : Nat :=
  let c0_i32_31 : BitVec 32 := 0#32
  let c12_i32_29 : BitVec 32 := 12#32
  let c1_i32_30 : BitVec 32 := 1#32
  let v72 : BitVec 32 := Scalar.muli c12_i32_29 c1_i32_30
  let v73 : BitVec 32 := Scalar.addi c0_i32_31 v72
  v73.toNat
def k0_cond32 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v63 : BitVec 1 := Scalar.cmpi .ne v2 c13_i32
  let v64 : BitVec 32 := Scalar.extui v63
  let c0_i32_22 : BitVec 32 := 0#32
  let v65 : BitVec 1 := Scalar.cmpi .ne v64 c0_i32_22
  v65

def k0_off28 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off29 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev30 : Nat :=
  let c0_i32_31 : BitVec 32 := 0#32
  let c13_i32_29 : BitVec 32 := 13#32
  let c1_i32_30 : BitVec 32 := 1#32
  let v72 : BitVec 32 := Scalar.muli c13_i32_29 c1_i32_30
  let v73 : BitVec 32 := Scalar.addi c0_i32_31 v72
  v73.toNat
def k0_cond33 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v66 : BitVec 1 := Scalar.cmpi .ne v2 c14_i32
  let v67 : BitVec 32 := Scalar.extui v66
  let c0_i32_23 : BitVec 32 := 0#32
  let v68 : BitVec 1 := Scalar.cmpi .ne v67 c0_i32_23
  v68

def k0_off30 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off31 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev31 : Nat :=
  let c0_i32_31 : BitVec 32 := 0#32
  let c14_i32_29 : BitVec 32 := 14#32
  let c1_i32_30 : BitVec 32 := 1#32
  let v72 : BitVec 32 := Scalar.muli c14_i32_29 c1_i32_30
  let v73 : BitVec 32 := Scalar.addi c0_i32_31 v72
  v73.toNat
def k0_cond34 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_24 : BitVec 32 := 15#32
  let v69 : BitVec 1 := Scalar.cmpi .ne v2 c15_i32_24
  let v70 : BitVec 32 := Scalar.extui v69
  let c0_i32_25 : BitVec 32 := 0#32
  let v71 : BitVec 1 := Scalar.cmpi .ne v70 c0_i32_25
  v71

def k0_off32 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_26 : BitVec 32 := 0#32
  ![v2.toNat, 0]
def k0_off33 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_32 : BitVec 32 := 0#32
  ![v2.toNat, 0]
def k0_dev32 : Nat :=
  let c0_i32_31 : BitVec 32 := 0#32
  let c15_i32_29 : BitVec 32 := 15#32
  let c1_i32_30 : BitVec 32 := 1#32
  let v72 : BitVec 32 := Scalar.muli c15_i32_29 c1_i32_30
  let v73 : BitVec 32 := Scalar.addi c0_i32_31 v72
  v73.toNat
def k0_cond35 (i : grid0.Coords) : BitVec 1 :=
  let arg0 : BitVec 32 := BitVec.ofNat 32 (i 0).val
  let c3_i32 : BitVec 32 := 3#32
  let v20 : BitVec 1 := Scalar.cmpi .eq arg0 c3_i32
  let v21 : BitVec 32 := Scalar.extui v20
  let c0_i32_4 : BitVec 32 := 0#32
  let v22 : BitVec 1 := Scalar.cmpi .ne v21 c0_i32_4
  v22

def k0_cond36 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_5 : BitVec 32 := 0#32
  let v23 : BitVec 1 := Scalar.cmpi .ne v2 c0_i32_5
  let v24 : BitVec 32 := Scalar.extui v23
  let c0_i32_6 : BitVec 32 := 0#32
  let v25 : BitVec 1 := Scalar.cmpi .ne v24 c0_i32_6
  v25

def k0_off34 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off35 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev33 : Nat :=
  let c0_i32_140 : BitVec 32 := 0#32
  let c0_i32_138 : BitVec 32 := 0#32
  let c1_i32_139 : BitVec 32 := 1#32
  let v232 : BitVec 32 := Scalar.muli c0_i32_138 c1_i32_139
  let v233 : BitVec 32 := Scalar.addi c0_i32_140 v232
  v233.toNat
def k0_cond37 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v26 : BitVec 1 := Scalar.cmpi .ne v2 c1_i32_7
  let v27 : BitVec 32 := Scalar.extui v26
  let c0_i32_8 : BitVec 32 := 0#32
  let v28 : BitVec 1 := Scalar.cmpi .ne v27 c0_i32_8
  v28

def k0_off36 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off37 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev34 : Nat :=
  let c0_i32_140 : BitVec 32 := 0#32
  let c1_i32_138 : BitVec 32 := 1#32
  let c1_i32_139 : BitVec 32 := 1#32
  let v232 : BitVec 32 := Scalar.muli c1_i32_138 c1_i32_139
  let v233 : BitVec 32 := Scalar.addi c0_i32_140 v232
  v233.toNat
def k0_cond38 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_9 : BitVec 32 := 2#32
  let v29 : BitVec 1 := Scalar.cmpi .ne v2 c2_i32_9
  let v30 : BitVec 32 := Scalar.extui v29
  let c0_i32_10 : BitVec 32 := 0#32
  let v31 : BitVec 1 := Scalar.cmpi .ne v30 c0_i32_10
  v31

def k0_off38 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off39 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev35 : Nat :=
  let c0_i32_140 : BitVec 32 := 0#32
  let c2_i32_138 : BitVec 32 := 2#32
  let c1_i32_139 : BitVec 32 := 1#32
  let v232 : BitVec 32 := Scalar.muli c2_i32_138 c1_i32_139
  let v233 : BitVec 32 := Scalar.addi c0_i32_140 v232
  v233.toNat
def k0_cond39 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_11 : BitVec 32 := 3#32
  let v32 : BitVec 1 := Scalar.cmpi .ne v2 c3_i32_11
  let v33 : BitVec 32 := Scalar.extui v32
  let c0_i32_12 : BitVec 32 := 0#32
  let v34 : BitVec 1 := Scalar.cmpi .ne v33 c0_i32_12
  v34

def k0_off40 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off41 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev36 : Nat :=
  let c0_i32_140 : BitVec 32 := 0#32
  let c3_i32_138 : BitVec 32 := 3#32
  let c1_i32_139 : BitVec 32 := 1#32
  let v232 : BitVec 32 := Scalar.muli c3_i32_138 c1_i32_139
  let v233 : BitVec 32 := Scalar.addi c0_i32_140 v232
  v233.toNat
def k0_cond40 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v35 : BitVec 1 := Scalar.cmpi .ne v2 c4_i32
  let v36 : BitVec 32 := Scalar.extui v35
  let c0_i32_13 : BitVec 32 := 0#32
  let v37 : BitVec 1 := Scalar.cmpi .ne v36 c0_i32_13
  v37

def k0_off42 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off43 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev37 : Nat :=
  let c0_i32_140 : BitVec 32 := 0#32
  let c4_i32_138 : BitVec 32 := 4#32
  let c1_i32_139 : BitVec 32 := 1#32
  let v232 : BitVec 32 := Scalar.muli c4_i32_138 c1_i32_139
  let v233 : BitVec 32 := Scalar.addi c0_i32_140 v232
  v233.toNat
def k0_cond41 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v38 : BitVec 1 := Scalar.cmpi .ne v2 c5_i32
  let v39 : BitVec 32 := Scalar.extui v38
  let c0_i32_14 : BitVec 32 := 0#32
  let v40 : BitVec 1 := Scalar.cmpi .ne v39 c0_i32_14
  v40

def k0_off44 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off45 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev38 : Nat :=
  let c0_i32_140 : BitVec 32 := 0#32
  let c5_i32_138 : BitVec 32 := 5#32
  let c1_i32_139 : BitVec 32 := 1#32
  let v232 : BitVec 32 := Scalar.muli c5_i32_138 c1_i32_139
  let v233 : BitVec 32 := Scalar.addi c0_i32_140 v232
  v233.toNat
def k0_cond42 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v41 : BitVec 1 := Scalar.cmpi .ne v2 c6_i32
  let v42 : BitVec 32 := Scalar.extui v41
  let c0_i32_15 : BitVec 32 := 0#32
  let v43 : BitVec 1 := Scalar.cmpi .ne v42 c0_i32_15
  v43

def k0_off46 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off47 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev39 : Nat :=
  let c0_i32_140 : BitVec 32 := 0#32
  let c6_i32_138 : BitVec 32 := 6#32
  let c1_i32_139 : BitVec 32 := 1#32
  let v232 : BitVec 32 := Scalar.muli c6_i32_138 c1_i32_139
  let v233 : BitVec 32 := Scalar.addi c0_i32_140 v232
  v233.toNat
def k0_cond43 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v44 : BitVec 1 := Scalar.cmpi .ne v2 c7_i32
  let v45 : BitVec 32 := Scalar.extui v44
  let c0_i32_16 : BitVec 32 := 0#32
  let v46 : BitVec 1 := Scalar.cmpi .ne v45 c0_i32_16
  v46

def k0_off48 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off49 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev40 : Nat :=
  let c0_i32_140 : BitVec 32 := 0#32
  let c7_i32_138 : BitVec 32 := 7#32
  let c1_i32_139 : BitVec 32 := 1#32
  let v232 : BitVec 32 := Scalar.muli c7_i32_138 c1_i32_139
  let v233 : BitVec 32 := Scalar.addi c0_i32_140 v232
  v233.toNat
def k0_cond44 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v47 : BitVec 1 := Scalar.cmpi .ne v2 c8_i32
  let v48 : BitVec 32 := Scalar.extui v47
  let c0_i32_17 : BitVec 32 := 0#32
  let v49 : BitVec 1 := Scalar.cmpi .ne v48 c0_i32_17
  v49

def k0_off50 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off51 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev41 : Nat :=
  let c0_i32_140 : BitVec 32 := 0#32
  let c8_i32_138 : BitVec 32 := 8#32
  let c1_i32_139 : BitVec 32 := 1#32
  let v232 : BitVec 32 := Scalar.muli c8_i32_138 c1_i32_139
  let v233 : BitVec 32 := Scalar.addi c0_i32_140 v232
  v233.toNat
def k0_cond45 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v50 : BitVec 1 := Scalar.cmpi .ne v2 c9_i32
  let v51 : BitVec 32 := Scalar.extui v50
  let c0_i32_18 : BitVec 32 := 0#32
  let v52 : BitVec 1 := Scalar.cmpi .ne v51 c0_i32_18
  v52

def k0_off52 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off53 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev42 : Nat :=
  let c0_i32_140 : BitVec 32 := 0#32
  let c9_i32_138 : BitVec 32 := 9#32
  let c1_i32_139 : BitVec 32 := 1#32
  let v232 : BitVec 32 := Scalar.muli c9_i32_138 c1_i32_139
  let v233 : BitVec 32 := Scalar.addi c0_i32_140 v232
  v233.toNat
def k0_cond46 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v53 : BitVec 1 := Scalar.cmpi .ne v2 c10_i32
  let v54 : BitVec 32 := Scalar.extui v53
  let c0_i32_19 : BitVec 32 := 0#32
  let v55 : BitVec 1 := Scalar.cmpi .ne v54 c0_i32_19
  v55

def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off55 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev43 : Nat :=
  let c0_i32_140 : BitVec 32 := 0#32
  let c10_i32_138 : BitVec 32 := 10#32
  let c1_i32_139 : BitVec 32 := 1#32
  let v232 : BitVec 32 := Scalar.muli c10_i32_138 c1_i32_139
  let v233 : BitVec 32 := Scalar.addi c0_i32_140 v232
  v233.toNat
def k0_cond47 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v56 : BitVec 1 := Scalar.cmpi .ne v2 c11_i32
  let v57 : BitVec 32 := Scalar.extui v56
  let c0_i32_20 : BitVec 32 := 0#32
  let v58 : BitVec 1 := Scalar.cmpi .ne v57 c0_i32_20
  v58

def k0_off56 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off57 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev44 : Nat :=
  let c0_i32_140 : BitVec 32 := 0#32
  let c11_i32_138 : BitVec 32 := 11#32
  let c1_i32_139 : BitVec 32 := 1#32
  let v232 : BitVec 32 := Scalar.muli c11_i32_138 c1_i32_139
  let v233 : BitVec 32 := Scalar.addi c0_i32_140 v232
  v233.toNat
def k0_cond48 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v59 : BitVec 1 := Scalar.cmpi .ne v2 c12_i32
  let v60 : BitVec 32 := Scalar.extui v59
  let c0_i32_21 : BitVec 32 := 0#32
  let v61 : BitVec 1 := Scalar.cmpi .ne v60 c0_i32_21
  v61

def k0_off58 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off59 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev45 : Nat :=
  let c0_i32_140 : BitVec 32 := 0#32
  let c12_i32_138 : BitVec 32 := 12#32
  let c1_i32_139 : BitVec 32 := 1#32
  let v232 : BitVec 32 := Scalar.muli c12_i32_138 c1_i32_139
  let v233 : BitVec 32 := Scalar.addi c0_i32_140 v232
  v233.toNat
def k0_cond49 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v62 : BitVec 1 := Scalar.cmpi .ne v2 c13_i32
  let v63 : BitVec 32 := Scalar.extui v62
  let c0_i32_22 : BitVec 32 := 0#32
  let v64 : BitVec 1 := Scalar.cmpi .ne v63 c0_i32_22
  v64

def k0_off60 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off61 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev46 : Nat :=
  let c0_i32_140 : BitVec 32 := 0#32
  let c13_i32_138 : BitVec 32 := 13#32
  let c1_i32_139 : BitVec 32 := 1#32
  let v232 : BitVec 32 := Scalar.muli c13_i32_138 c1_i32_139
  let v233 : BitVec 32 := Scalar.addi c0_i32_140 v232
  v233.toNat
def k0_cond50 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v65 : BitVec 1 := Scalar.cmpi .ne v2 c14_i32
  let v66 : BitVec 32 := Scalar.extui v65
  let c0_i32_23 : BitVec 32 := 0#32
  let v67 : BitVec 1 := Scalar.cmpi .ne v66 c0_i32_23
  v67

def k0_off62 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off63 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev47 : Nat :=
  let c0_i32_140 : BitVec 32 := 0#32
  let c14_i32_138 : BitVec 32 := 14#32
  let c1_i32_139 : BitVec 32 := 1#32
  let v232 : BitVec 32 := Scalar.muli c14_i32_138 c1_i32_139
  let v233 : BitVec 32 := Scalar.addi c0_i32_140 v232
  v233.toNat
def k0_cond51 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v68 : BitVec 1 := Scalar.cmpi .ne v2 c15_i32
  let v69 : BitVec 32 := Scalar.extui v68
  let c0_i32_24 : BitVec 32 := 0#32
  let v70 : BitVec 1 := Scalar.cmpi .ne v69 c0_i32_24
  v70

def k0_off64 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_135 : BitVec 32 := 1#32
  ![v2.toNat, 1]
def k0_off65 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_dev48 : Nat :=
  let c0_i32_140 : BitVec 32 := 0#32
  let c15_i32_138 : BitVec 32 := 15#32
  let c1_i32_139 : BitVec 32 := 1#32
  let v232 : BitVec 32 := Scalar.muli c15_i32_138 c1_i32_139
  let v233 : BitVec 32 := Scalar.addi c0_i32_140 v232
  v233.toNat
def k0_cond84 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_103 : BitVec 32 := 0#32
  let v184 : BitVec 1 := Scalar.cmpi .ne v2 c0_i32_103
  let v185 : BitVec 32 := Scalar.extui v184
  let c0_i32_104 : BitVec 32 := 0#32
  let v186 : BitVec 1 := Scalar.cmpi .ne v185 c0_i32_104
  v186

def k0_off66 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off67 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond85 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_105 : BitVec 32 := 1#32
  let v187 : BitVec 1 := Scalar.cmpi .ne v2 c1_i32_105
  let v188 : BitVec 32 := Scalar.extui v187
  let c0_i32_106 : BitVec 32 := 0#32
  let v189 : BitVec 1 := Scalar.cmpi .ne v188 c0_i32_106
  v189

def k0_off68 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off69 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond86 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_107 : BitVec 32 := 2#32
  let v190 : BitVec 1 := Scalar.cmpi .ne v2 c2_i32_107
  let v191 : BitVec 32 := Scalar.extui v190
  let c0_i32_108 : BitVec 32 := 0#32
  let v192 : BitVec 1 := Scalar.cmpi .ne v191 c0_i32_108
  v192

def k0_off70 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off71 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond87 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_109 : BitVec 32 := 3#32
  let v193 : BitVec 1 := Scalar.cmpi .ne v2 c3_i32_109
  let v194 : BitVec 32 := Scalar.extui v193
  let c0_i32_110 : BitVec 32 := 0#32
  let v195 : BitVec 1 := Scalar.cmpi .ne v194 c0_i32_110
  v195

def k0_off72 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off73 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond88 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_111 : BitVec 32 := 4#32
  let v196 : BitVec 1 := Scalar.cmpi .ne v2 c4_i32_111
  let v197 : BitVec 32 := Scalar.extui v196
  let c0_i32_112 : BitVec 32 := 0#32
  let v198 : BitVec 1 := Scalar.cmpi .ne v197 c0_i32_112
  v198

def k0_off74 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off75 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond89 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_113 : BitVec 32 := 5#32
  let v199 : BitVec 1 := Scalar.cmpi .ne v2 c5_i32_113
  let v200 : BitVec 32 := Scalar.extui v199
  let c0_i32_114 : BitVec 32 := 0#32
  let v201 : BitVec 1 := Scalar.cmpi .ne v200 c0_i32_114
  v201

def k0_off76 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off77 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond90 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_115 : BitVec 32 := 6#32
  let v202 : BitVec 1 := Scalar.cmpi .ne v2 c6_i32_115
  let v203 : BitVec 32 := Scalar.extui v202
  let c0_i32_116 : BitVec 32 := 0#32
  let v204 : BitVec 1 := Scalar.cmpi .ne v203 c0_i32_116
  v204

def k0_off78 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off79 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond91 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_117 : BitVec 32 := 7#32
  let v205 : BitVec 1 := Scalar.cmpi .ne v2 c7_i32_117
  let v206 : BitVec 32 := Scalar.extui v205
  let c0_i32_118 : BitVec 32 := 0#32
  let v207 : BitVec 1 := Scalar.cmpi .ne v206 c0_i32_118
  v207

def k0_off80 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off81 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond92 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_119 : BitVec 32 := 8#32
  let v208 : BitVec 1 := Scalar.cmpi .ne v2 c8_i32_119
  let v209 : BitVec 32 := Scalar.extui v208
  let c0_i32_120 : BitVec 32 := 0#32
  let v210 : BitVec 1 := Scalar.cmpi .ne v209 c0_i32_120
  v210

def k0_off82 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off83 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond93 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_121 : BitVec 32 := 9#32
  let v211 : BitVec 1 := Scalar.cmpi .ne v2 c9_i32_121
  let v212 : BitVec 32 := Scalar.extui v211
  let c0_i32_122 : BitVec 32 := 0#32
  let v213 : BitVec 1 := Scalar.cmpi .ne v212 c0_i32_122
  v213

def k0_off84 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off85 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond94 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_123 : BitVec 32 := 10#32
  let v214 : BitVec 1 := Scalar.cmpi .ne v2 c10_i32_123
  let v215 : BitVec 32 := Scalar.extui v214
  let c0_i32_124 : BitVec 32 := 0#32
  let v216 : BitVec 1 := Scalar.cmpi .ne v215 c0_i32_124
  v216

def k0_off86 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off87 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond95 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_125 : BitVec 32 := 11#32
  let v217 : BitVec 1 := Scalar.cmpi .ne v2 c11_i32_125
  let v218 : BitVec 32 := Scalar.extui v217
  let c0_i32_126 : BitVec 32 := 0#32
  let v219 : BitVec 1 := Scalar.cmpi .ne v218 c0_i32_126
  v219

def k0_off88 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off89 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond96 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_127 : BitVec 32 := 12#32
  let v220 : BitVec 1 := Scalar.cmpi .ne v2 c12_i32_127
  let v221 : BitVec 32 := Scalar.extui v220
  let c0_i32_128 : BitVec 32 := 0#32
  let v222 : BitVec 1 := Scalar.cmpi .ne v221 c0_i32_128
  v222

def k0_off90 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off91 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond97 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_129 : BitVec 32 := 13#32
  let v223 : BitVec 1 := Scalar.cmpi .ne v2 c13_i32_129
  let v224 : BitVec 32 := Scalar.extui v223
  let c0_i32_130 : BitVec 32 := 0#32
  let v225 : BitVec 1 := Scalar.cmpi .ne v224 c0_i32_130
  v225

def k0_off92 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off93 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond98 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_131 : BitVec 32 := 14#32
  let v226 : BitVec 1 := Scalar.cmpi .ne v2 c14_i32_131
  let v227 : BitVec 32 := Scalar.extui v226
  let c0_i32_132 : BitVec 32 := 0#32
  let v228 : BitVec 1 := Scalar.cmpi .ne v227 c0_i32_132
  v228

def k0_off94 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off95 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def k0_cond99 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_133 : BitVec 32 := 15#32
  let v229 : BitVec 1 := Scalar.cmpi .ne v2 c15_i32_133
  let v230 : BitVec 32 := Scalar.extui v229
  let c0_i32_134 : BitVec 32 := 0#32
  let v231 : BitVec 1 := Scalar.cmpi .ne v230 c0_i32_134
  v231

def k0_off96 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_140 : BitVec 32 := 0#32
  ![v2.toNat, 0]
def k0_off97 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3072_i32 : BitVec 32 := 3072#32
  ![v2.toNat, 3072]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := .none

abbrev stage1_0 : Fin 1 → Memref sig .tc .vmem S4096x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S4096x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S4096x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
-- ==== ReferenceIdeal.lean ====
abbrev S4096x16384 : Shape := ⟨2, ![4096, 16384]⟩
abbrev S16384 : Shape := ⟨1, ![16384]⟩
abbrev S_ : Shape := ⟨0, ![]⟩
abbrev S4096 : Shape := ⟨1, ![4096]⟩
abbrev S4096x1 : Shape := ⟨2, ![4096, 1]⟩
abbrev S1x16384 : Shape := ⟨2, ![1, 16384]⟩

abbrev nBuf : Space → Nat
  | .hbm => 18
  | .vmem => 0
  | .smem => 0
  | _ => 0

abbrev bufTy : (tb : Table) → Fin (tcTables nBuf tb) → BufTy
  | .hbm, ⟨0, _⟩ => ⟨S4096x16384, .f32⟩
  | .hbm, ⟨1, _⟩ => ⟨S16384, .f32⟩
  | .hbm, ⟨2, _⟩ => ⟨S4096x16384, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S_, .f32⟩
  | .hbm, ⟨7, _⟩ => ⟨S4096x1, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S4096x1, .f32⟩
  | .hbm, ⟨13, _⟩ => ⟨S1x16384, .f32⟩
  | .hbm, ⟨14, _⟩ => ⟨S4096x16384, .f32⟩
  | .hbm, ⟨15, _⟩ => ⟨S4096x16384, .f32⟩
  | .hbm, ⟨16, _⟩ => ⟨S4096x16384, .f32⟩
  | .hbm, ⟨17, _⟩ => ⟨S4096x16384, .f32⟩
  | _, _ => ⟨S4096x16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Proof.Blocks.lean ====
/-
  The all-reduce kernel's body, block by block.

  The printed body repeats each of its communication phases once per device `t` of the mesh, every copy under the
  condition that `t` is not the device that runs it. This module names one block per phase, with `t` (and the wave `w` of
  the transfer, columns 0..3072 or 3072..4096) a parameter, and shows the printed body equal to the loops of these blocks.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.KernelIdeal.AllReduce

open Idealize.ShloMosaic Idealize.ShloMosaic.TcCoe
open Idealize.SL.Sem Cert.KernelIdeal Cert.KernelIdeal.Facts₀ Cert.KernelIdeal.Facts

variable {F : FTy → Type}

/-- A program of the kernel. -/
abbrev KProg (F : FTy → Type) (α : Type) : Type 1 := Prog (TpuEff nD τ sig (Elt F) Λ₀ .tc) α

/-! ## The pieces of the exchange buffer and the semaphores -/

/-- How many columns a wave of a row has: wave 0 has 3072, wave 1 has 1024. -/
abbrev waveLen (w : Fin 2) : ℕ := match w with | 0 => 3072 | 1 => 1024
/-- One wave of a row. -/
abbrev waveShape (w : Fin 2) : Shape := ⟨2, ![1, waveLen w]⟩
/-- The first column of a wave. -/
abbrev waveOff (w : Fin 2) : ℕ := match w with | 0 => 0 | 1 => 3072

/-- A wave of a row lies within the exchange buffer. -/
theorem wave_inb (s : Dev nD) (w : Fin 2) : ∀ a, (![s.val, waveOff w] : Fin 2 → ℕ) a + (waveShape w).size a ≤ S16x4096.size a := by
  revert s w; decide +kernel

/-- A device's index and a wave's name an entry of a semaphore array. -/
theorem sem_inb (s : Dev nD) (w : Fin 2) : ∀ a, (![s.val, w.val] : Fin 2 → ℕ) a + S1x1.size a ≤ S16x2.size a := by
  revert s w; decide +kernel

/-- Row `s` of the exchange buffer, wave `w`. -/
abbrev rowM (s : Dev nD) (w : Fin 2) : Memref sig .tc .vmem (waveShape w) .f32 :=
  (Memref.whole cc0_scratch0).slice (Rect.unit (s := S16x4096) ![s.val, waveOff w] (waveShape w).size (wave_inb s w)) (fun _ => rfl)

/-- The semaphore on which the copy of wave `w` to device `t` completes at its source. -/
abbrev sendS (t : Dev nD) (w : Fin 2) : DmaSem sig :=
  ((cc0_scratch1.slice (Rect.unit (s := S16x2) ![t.val, w.val] S1x1.size (sem_inb t w))).squeeze S_ squeezes_S1x1_S_).sem
/-- The semaphore on which the copy of wave `w` from device `s` completes at its destination. -/
abbrev recvS (s : Dev nD) (w : Fin 2) : DmaSem sig :=
  ((cc0_scratch2.slice (Rect.unit (s := S16x2) ![s.val, w.val] S1x1.size (sem_inb s w))).squeeze S_ squeezes_S1x1_S_).sem
/-- The barrier semaphore. -/
abbrev barS : Sem sig := (SemArray.scalar (sig.barrier 0 rfl) : Sems sig S_).sem

/-! ## The blocks -/

/-- Tell device `t`, unless it is this one, that this device is ready. -/
def sigB (c t : Dev nD) : KProg F PUnit :=
  if c ≠ t then semSignalWord t barS 1#32 else pure ⟨⟩

/-- Copy wave `w` of this device's row to device `t`, unless it is this one. -/
def sendB (c : Dev nD) (w : Fin 2) (t : Dev nD) : KProg F PUnit :=
  if c ≠ t then
    Prog.lift (.enqueueDma (rowM c w) (.remote (Dev.tc t) (rowM c w) (.dma (sendS t w))) (.dma (recvS c w)) (View.wordExact_bits rfl) (View.wordExact_bits rfl) ⟨⟨rfl, Or.inl rfl⟩, trivial⟩)
  else pure ⟨⟩

/-- Wait for wave `w` of device `s`'s row, unless it is this one's own. -/
def recvB (c : Dev nD) (w : Fin 2) (s : Dev nD) : KProg F PUnit :=
  if c ≠ s then Prog.lift (.waitDma2 (recvS s w) (rowM s w) (rowM s w) (View.wordExact_bits rfl) (View.wordExact_bits rfl))
  else pure ⟨⟩

/-- Wait until both copies to device `t` have left, unless it is this one. -/
def doneB (c t : Dev nD) : KProg F PUnit :=
  if c ≠ t then (do
    Prog.lift (.waitDma2 (sendS t 0) (rowM c 0) (rowM c 0) (View.wordExact_bits rfl) (View.wordExact_bits rfl))
    Prog.lift (.waitDma2 (sendS t 1) (rowM c 1) (rowM c 1) (View.wordExact_bits rfl) (View.wordExact_bits rfl)))
  else pure ⟨⟩

/-- One block after another, over a list of devices, then `K`. -/
def over (f : Dev nD → KProg F PUnit) {α : Type} : List (Dev nD) → KProg F α → KProg F α
  | [], K => K
  | t :: l, K => f t >>= fun _ => over f l K

/-- All devices. -/
abbrev all16 : List (Dev nD) := [0, 1, 2, 3, 4, 5, 6, 7, 8, 9, 10, 11, 12, 13, 14, 15]

/-- A loop over two lists in a row is the one loop and then the other. -/
theorem over_append (f : Dev nD → KProg F PUnit) {α : Type} (l l' : List (Dev nD)) (K : KProg F α) :
    over f (l ++ l') K = over f l (over f l' K) := by
  induction l with
  | nil => rfl
  | cons t l ih => simp only [List.cons_append, over, ih]

/-- What follows a loop may be moved into its end. -/
theorem over_bind (f : Dev nD → KProg F PUnit) {α β : Type} (l : List (Dev nD)) (K : KProg F α) (G : α → KProg F β) :
    over f l K >>= G = over f l (K >>= G) := by
  induction l with
  | nil => rfl
  | cons t l ih => simp only [over, bind_assoc, ih]

/-! ## Aligning a printed block with its parameterised form

Each lemma takes a printed block under its printed condition, followed by `K`, to the next step of a loop. -/

section Align

variable {α : Type} (c : Dev nD) {p : Prop} {_ : Decidable p} {K : KProg F α} {l : List (Dev nD)} {K' : KProg F α}

/-- A printed signal to a device that is `t` is the loop's step at `t`. -/
theorem sigB_eq {t : Dev nD} (hp : p ↔ c ≠ t) {d : p → Dev nD} (hd : ∀ h, d h = t) (hK : over (sigB c) l K' = K) :
    over (sigB c) (t :: l) K' = (if h : p then (do semSignalWord (d h) barS 1#32; K) else K) := by
  subst hK
  by_cases h : p
  · rw [dif_pos h, hd h]
    exact congrArg (fun x => x >>= fun _ => over (sigB c) l K') (if_pos (hp.mp h))
  · rw [dif_neg h]
    exact congrArg (fun x => x >>= fun _ => over (sigB c) l K') (if_neg (fun hq => h (hp.mpr hq)))

/-- A printed copy at offsets `o`, `o'` that are this device's semaphore and row. -/
theorem sendB_eq (w : Fin 2) {t : Dev nD} (hp : p ↔ c ≠ t) {d : p → Dev nD} (hd : ∀ h, d h = t)
    {o o' : Fin 2 → ℕ} (ho : o = ![c.val, w.val]) (ho' : o' = ![c.val, waveOff w])
    (hb : p → ∀ a, o a + S1x1.size a ≤ S16x2.size a) (hb' : p → ∀ a, o' a + (waveShape w).size a ≤ S16x4096.size a)
    (hK : over (sendB c w) l K' = K) :
    over (sendB c w) (t :: l) K' = (if h : p then (do
      Prog.lift (.enqueueDma ((Memref.whole cc0_scratch0).slice (Rect.unit (s := S16x4096) o' (waveShape w).size (hb' h)) (fun _ => rfl))
        (.remote (Dev.tc (d h)) ((Memref.whole cc0_scratch0).slice (Rect.unit (s := S16x4096) o' (waveShape w).size (hb' h)) (fun _ => rfl)) (.dma (sendS t w)))
        (.dma ((cc0_scratch2.slice (Rect.unit (s := S16x2) o S1x1.size (hb h))).squeeze S_ squeezes_S1x1_S_).sem)
        (View.wordExact_bits rfl) (View.wordExact_bits rfl) ⟨⟨rfl, Or.inl rfl⟩, trivial⟩)
      K) else K) := by
  subst hK ho ho'
  by_cases h : p
  · rw [dif_pos h, hd h]
    exact congrArg (fun x => x >>= fun _ => over (sendB c w) l K') (if_pos (hp.mp h))
  · rw [dif_neg h]
    exact congrArg (fun x => x >>= fun _ => over (sendB c w) l K') (if_neg (fun hq => h (hp.mpr hq)))

/-- A printed wait for device `s`'s wave is the loop's step at `s`. -/
theorem recvB_eq (w : Fin 2) {s : Dev nD} (hp : p ↔ c ≠ s) (hK : over (recvB c w) l K' = K) :
    over (recvB c w) (s :: l) K' = (if h : p then (do
      Prog.lift (.waitDma2 (recvS s w) (rowM s w) (rowM s w) (View.wordExact_bits rfl) (View.wordExact_bits rfl))
      K) else K) := by
  subst hK
  by_cases h : p
  · rw [dif_pos h]
    exact congrArg (fun x => x >>= fun _ => over (recvB c w) l K') (if_pos (hp.mp h))
  · rw [dif_neg h]
    exact congrArg (fun x => x >>= fun _ => over (recvB c w) l K') (if_neg (fun hq => h (hp.mpr hq)))

/-- A printed pair of waits at row offsets that are this device's. -/
theorem doneB_eq {t : Dev nD} (hp : p ↔ c ≠ t)
    {o o' : Fin 2 → ℕ} (ho : o = ![c.val, waveOff 0]) (ho' : o' = ![c.val, waveOff 1])
    (hb : p → ∀ a, o a + (waveShape 0).size a ≤ S16x4096.size a) (hb' : p → ∀ a, o' a + (waveShape 1).size a ≤ S16x4096.size a)
    (hK : over (doneB c) l K' = K) :
    over (doneB c) (t :: l) K' = (if h : p then (do
      Prog.lift (.waitDma2 (sendS t 0) ((Memref.whole cc0_scratch0).slice (Rect.unit (s := S16x4096) o (waveShape 0).size (hb h)) (fun _ => rfl))
        ((Memref.whole cc0_scratch0).slice (Rect.unit (s := S16x4096) o (waveShape 0).size (hb h)) (fun _ => rfl)) (View.wordExact_bits rfl) (View.wordExact_bits rfl))
      Prog.lift (.waitDma2 (sendS t 1) ((Memref.whole cc0_scratch0).slice (Rect.unit (s := S16x4096) o' (waveShape 1).size (hb' h)) (fun _ => rfl))
        ((Memref.whole cc0_scratch0).slice (Rect.unit (s := S16x4096) o' (waveShape 1).size (hb' h)) (fun _ => rfl)) (View.wordExact_bits rfl) (View.wordExact_bits rfl))
      K) else K) := by
  subst hK ho ho'
  by_cases h : p
  · rw [dif_pos h]
    exact congrArg (fun x => x >>= fun _ => over (doneB c) l K') (if_pos (hp.mp h))
  · rw [dif_neg h]
    exact congrArg (fun x => x >>= fun _ => over (doneB c) l K') (if_neg (fun hq => h (hp.mpr hq)))

end Align

/-! ## The parts -/

/-- The device's index as the kernel computes it. -/
abbrev word (c : Dev nD) : BitVec 32 := Scalar.remsi (Scalar.divsi (Dev.word c) 1#32) 16#32

section Parts

variable [FloatOps F] (i : grid0.Coords) (arg1 : Memref sig .tc .vmem S1024x1024 .f32) (harg1 : arg1.IsWhole)
  (arg2 : Memref sig .tc .vmem S4096x1 .f32) (harg2 : arg2.IsWhole) (harg3 : (Memref.whole cc0_scratch0 : Memref sig .tc .vmem S16x4096 .f32).IsWhole) (c : Dev nD)

/-- Square and sum the block of rows in hand, and put the sums into this device's row of the exchange buffer. -/
def storeB (K : KProg F PUnit) : KProg F PUnit := do
  let x : Vec F S1024x1024 .f32 ← Prog.lift (.load arg1 (Rect.unit (s := S1024x1024) ![0, 0] S1024x1024.size inb_S1024x1024_S1024x1024_0_0).toLoadRect (View.loadsAt_vmem h_S1024x1024))
  let _ : Vec F S1x1024 .f32 ← Prog.lift (.load (Memref.whole cc0_scratch0) (Rect.unit (s := S16x4096) (k0_off1 i c) S1x1024.size (k0_off1_inb i c)).toLoadRect (View.loadsAt_vmem h_S1x1024))
  Prog.lift (.store (Memref.whole cc0_scratch0) (Rect.unit (s := S16x4096) (k0_off1 i c) S1x1024.size (k0_off1_inb i c)) (Gen.k0_pay1 x) Finset.univ (View.stores_vmem_bits_univ h_S1x1024 rfl) (.inl rfl))
  K

/-- Sum wave 0 of all rows and write the first 3072 entries of the result. -/
def reading0 {α : Type} (K : KProg F α) : KProg F α := do
  let v : Vec F S16x3072 .f32 ← Prog.lift (.load (Memref.whole cc0_scratch0) (Rect.unit (s := S16x4096) ![0, 0] S16x3072.size inb_S16x4096_S16x3072_0_0).toLoadRect (View.loadsAt_vmem h_S16x3072))
  let _ : Vec F S3072x1 .f32 ← Prog.lift (.load arg2 (Rect.unit (s := S4096x1) ![0, 0] S3072x1.size inb_S4096x1_S3072x1_0_0).toLoadRect (View.loadsAt_vmem h_S3072x1))
  Prog.lift (.store arg2 (Rect.unit (s := S4096x1) ![0, 0] S3072x1.size inb_S4096x1_S3072x1_0_0) (Gen.k0_pay3 Gen.k0_pay2 v) Finset.univ (View.stores_vmem_bits_univ h_S3072x1 rfl) (.inl rfl))
  K

/-- Sum wave 1 of all rows and write the last 1024 entries of the result. -/
def reading1 {α : Type} (K : KProg F α) : KProg F α := do
  let v : Vec F S16x1024 .f32 ← Prog.lift (.load (Memref.whole cc0_scratch0) (Rect.unit (s := S16x4096) ![0, 3072] S16x1024.size inb_S16x4096_S16x1024_0_3072).toLoadRect (View.loadsAt_vmem h_S16x1024))
  let _ : Vec F S1024x1 .f32 ← Prog.lift (.load arg2 (Rect.unit (s := S4096x1) ![3072, 0] S1024x1.size inb_S4096x1_S1024x1_3072_0).toLoadRect (View.loadsAt_vmem h_S1024x1))
  Prog.lift (.store arg2 (Rect.unit (s := S4096x1) ![3072, 0] S1024x1.size inb_S4096x1_S1024x1_3072_0) (Gen.k0_pay4 Gen.k0_pay2 v) Finset.univ (View.stores_vmem_bits_univ h_S1024x1 rfl) (.inl rfl))
  K

/-- The first part tells devices 0 to 8 that this one is ready. -/
theorem part1_eq (h : k0_cond1 i = 1#1) :
    k0_part1 (F := F) i arg1 harg1 arg2 harg2 (Memref.whole cc0_scratch0) harg3 cc0_scratch1 cc0_scratch2 c (word c) h
      = over (sigB c) [0, 1, 2, 3, 4, 5, 6, 7, 8] (pure (SemArray.scalar (sig.barrier 0 rfl))) := by
  rw [Gen.k0_part1_eq_skeleton]; unfold Gen.k0_part1_skel; symm
  iterate 9
    refine sigB_eq c ?_ (fun _ => rfl) ?_
    · clear h; revert c; decide +kernel
  rfl

/-- The second part waits at the barrier, then starts wave 0's copies to devices 0 to 8. -/
theorem part2_eq (h : k0_cond18 i = 1#1) :
    k0_part2 (F := F) i arg1 harg1 arg2 harg2 (Memref.whole cc0_scratch0) harg3 cc0_scratch1 cc0_scratch2 c (word c) h
      = semWaitWord barS 15#32 >>= fun _ => over (sendB c 0) [0, 1, 2, 3, 4, 5, 6, 7, 8] (pure (Scalar.cmpi .ne (word c) 9#32)) := by
  rw [Gen.k0_part2_eq_skeleton]; unfold Gen.k0_part2_skel; symm
  refine congrArg (semWaitWord barS 15#32 >>= ·) (funext fun _ => ?_)
  iterate 9
    refine sendB_eq c 0 ?_ (fun _ => rfl) ?_ ?_ _ _ ?_
    iterate 3
      · clear h; revert c; decide +kernel
  rfl

/-- The third part starts wave 1's copies to devices 0 to 9. -/
theorem part3_eq (h : k0_cond35 i = 1#1) :
    k0_part3 (F := F) i arg1 harg1 arg2 harg2 (Memref.whole cc0_scratch0) harg3 cc0_scratch1 cc0_scratch2 c (word c) h
      = over (sendB c 1) [0, 1, 2, 3, 4, 5, 6, 7, 8, 9] (pure ⟨⟩) := by
  rw [Gen.k0_part3_eq_skeleton]; unfold Gen.k0_part3_skel; symm
  iterate 10
    refine sendB_eq c 1 ?_ (fun _ => rfl) ?_ ?_ _ _ ?_
    iterate 3
      · clear h; revert c; decide +kernel
  rfl

/-- The fourth part starts wave 1's copies to the other devices, then waits for wave 0 of devices 0 to 2. -/
theorem part4_eq (h : k0_cond35 i = 1#1) :
    k0_part4 (F := F) i arg1 harg1 arg2 harg2 (Memref.whole cc0_scratch0) harg3 cc0_scratch1 cc0_scratch2 c (word c) h
      = over (sendB c 1) [10, 11, 12, 13, 14, 15] (over (recvB c 0) [0, 1, 2] (pure ⟨Gen.k0_pay2, Scalar.extui (Scalar.cmpi .ne (word c) 3#32), 0#32⟩)) := by
  rw [Gen.k0_part4_eq_skeleton]; unfold Gen.k0_part4_skel; symm
  iterate 6
    refine sendB_eq c 1 ?_ (fun _ => rfl) ?_ ?_ _ _ ?_
    iterate 3
      · clear h; revert c; decide +kernel
  iterate 3
    refine recvB_eq c 0 ?_ ?_
    · clear h; revert c; decide +kernel
  rfl

/-- The fifth part waits for wave 0 of devices 3 to 12. -/
theorem part5_eq :
    k0_part5 (F := F) i arg1 harg1 arg2 harg2 (Memref.whole cc0_scratch0) harg3 cc0_scratch1 cc0_scratch2 (word c) (Scalar.extui (Scalar.cmpi .ne (word c) 3#32)) 0#32
      = over (recvB c 0) [3, 4, 5, 6, 7, 8, 9, 10, 11, 12] (pure ⟨Scalar.extui (Scalar.cmpi .ne (word c) 13#32), 0#32⟩) := by
  rw [Gen.k0_part5_eq_skeleton]; unfold Gen.k0_part5_skel; symm
  iterate 10
    refine recvB_eq c 0 ?_ ?_
    · revert c; decide +kernel
  rfl

/-- The sixth part waits for wave 0 of the last three devices, reads that wave, and waits for wave 1 of devices 0 to 4. -/
theorem part6_eq :
    k0_part6 (F := F) i arg1 harg1 arg2 harg2 (Memref.whole cc0_scratch0) harg3 cc0_scratch1 cc0_scratch2 (word c) Gen.k0_pay2 (Scalar.extui (Scalar.cmpi .ne (word c) 13#32)) 0#32
      = over (recvB c 0) [13, 14, 15] (reading0 arg2 (over (recvB c 1) [0, 1, 2, 3, 4] (pure ⟨⟩))) := by
  rw [Gen.k0_part6_eq_skeleton]; unfold Gen.k0_part6_skel; symm
  iterate 3
    refine recvB_eq c 0 ?_ ?_
    · revert c; decide +kernel
  refine congrArg (reading0 arg2) ?_
  iterate 5
    refine recvB_eq c 1 ?_ ?_
    · revert c; decide +kernel
  rfl

/-- The seventh part waits for wave 1 of devices 5 to 14. -/
theorem part7_eq :
    k0_part7 (F := F) i arg1 harg1 arg2 harg2 (Memref.whole cc0_scratch0) harg3 cc0_scratch1 cc0_scratch2 (word c)
      = over (recvB c 1) [5, 6, 7, 8, 9, 10, 11, 12, 13, 14] (pure ⟨⟩) := by
  rw [Gen.k0_part7_eq_skeleton]; unfold Gen.k0_part7_skel; symm
  iterate 10
    refine recvB_eq c 1 ?_ ?_
    · revert c; decide +kernel
  rfl

/-- The eighth part waits for wave 1 of device 15, reads that wave, and waits until the copies to devices 0 to 5 have left. -/
theorem part8_eq (h : k0_cond35 i = 1#1) :
    k0_part8 (F := F) i arg1 harg1 arg2 harg2 (Memref.whole cc0_scratch0) harg3 cc0_scratch1 cc0_scratch2 c (word c) h Gen.k0_pay2
      = over (recvB c 1) [15] (reading1 arg2 (over (doneB c) [0, 1, 2, 3, 4, 5] (pure (Scalar.cmpi .ne (word c) 6#32)))) := by
  rw [Gen.k0_part8_eq_skeleton]; unfold Gen.k0_part8_skel; symm
  iterate 1
    refine recvB_eq c 1 ?_ ?_
    · clear h; revert c; decide +kernel
  refine congrArg (reading1 arg2) ?_
  iterate 6
    refine doneB_eq c ?_ ?_ ?_ _ _ ?_
    iterate 3
      · clear h; revert c; decide +kernel
  rfl

/-- What follows the reading of wave 0 may be moved into its end. -/
theorem reading0_bind {α β : Type} (K : KProg F α) (G : α → KProg F β) : reading0 arg2 K >>= G = reading0 arg2 (K >>= G) := by
  unfold reading0; simp only [bind_assoc]

/-- What follows the reading of wave 1 may be moved into its end. -/
theorem reading1_bind {α β : Type} (K : KProg F α) (G : α → KProg F β) : reading1 arg2 K >>= G = reading1 arg2 (K >>= G) := by
  unfold reading1; simp only [bind_assoc]

/-- The ninth part, made of the third to the eighth: all of the last point's copies, waits and readings, up to the copies to device 14. -/
theorem part9_eq (h : k0_cond35 i = 1#1) :
    k0_part9 (F := F) i arg1 harg1 arg2 harg2 (Memref.whole cc0_scratch0) harg3 cc0_scratch1 cc0_scratch2 c (word c) h
      = over (sendB c 1) all16 (over (recvB c 0) all16 (reading0 arg2 (over (recvB c 1) all16 (reading1 arg2
          (over (doneB c) [0, 1, 2, 3, 4, 5, 6, 7, 8, 9, 10, 11, 12, 13, 14] (pure (Scalar.cmpi .ne (word c) 15#32))))))) := by
  rw [Gen.k0_part9_eq_skeleton]; unfold Gen.k0_part9_skel
  rw [part3_eq, over_bind, pure_bind, part4_eq, over_bind, over_bind, pure_bind]
  refine congrArg (over (sendB c 1) [0, 1, 2, 3, 4, 5, 6, 7, 8, 9]) (congrArg (over (sendB c 1) [10, 11, 12, 13, 14, 15]) (congrArg (over (recvB c 0) [0, 1, 2]) ?_))
  dsimp -zeta only
  rw [part5_eq, over_bind, pure_bind]
  refine congrArg (over (recvB c 0) [3, 4, 5, 6, 7, 8, 9, 10, 11, 12]) ?_
  dsimp -zeta only
  rw [part6_eq, over_bind, reading0_bind, over_bind, pure_bind]
  refine congrArg (over (recvB c 0) [13, 14, 15]) (congrArg (reading0 arg2) (congrArg (over (recvB c 1) [0, 1, 2, 3, 4]) ?_))
  rw [part7_eq, over_bind, pure_bind]
  refine congrArg (over (recvB c 1) [5, 6, 7, 8, 9, 10, 11, 12, 13, 14]) ?_
  rw [part8_eq, over_bind, reading1_bind, over_bind, pure_bind]
  refine congrArg (over (recvB c 1) [15]) (congrArg (reading1 arg2) (congrArg (over (doneB c) [0, 1, 2, 3, 4, 5]) ?_))
  symm
  iterate 9
    refine doneB_eq c ?_ ?_ ?_ _ _ ?_
    iterate 3
      · clear h; revert c; decide +kernel
  rfl

/-- The first phase, at grid point 0: tell every other device that this one is ready. -/
def phase0 (K : KProg F PUnit) : KProg F PUnit := if k0_cond1 i = 1#1 then over (sigB c) all16 K else K
/-- The second phase, at grid point 2: wait for the others and copy wave 0 of the row to them. -/
def phase2 (K : KProg F PUnit) : KProg F PUnit :=
  if k0_cond18 i = 1#1 then (semWaitWord barS 15#32 >>= fun _ => over (sendB c 0) all16 K) else K
/-- The third phase, at grid point 3: copy wave 1, wait for the others' rows and write the result. -/
def phase3 (K : KProg F PUnit) : KProg F PUnit :=
  if k0_cond35 i = 1#1 then over (sendB c 1) all16 (over (recvB c 0) all16 (reading0 arg2 (over (recvB c 1) all16 (reading1 arg2
    (over (doneB c) all16 K))))) else K

/-- A printed condition around a phase `f`, followed by `K`. -/
theorem cond_eq {p : Prop} {_ : Decidable p} {K K' : KProg F PUnit} {A : p → KProg F PUnit} (f : KProg F PUnit → KProg F PUnit)
    (hK : K' = K) (hA : ∀ h, f K = A h) : (if p then f K' else K') = (if h : p then A h else K) := by
  subst hK
  by_cases h : p
  · rw [if_pos h, dif_pos h, hA h]
  · rw [if_neg h, dif_neg h]

/-- The printed body is its phases one after another. -/
theorem body_eq :
    cc0_body (F := F) i arg1 harg1 arg2 harg2 (Memref.whole cc0_scratch0) harg3 cc0_scratch1 cc0_scratch2
      = Prog.lift .deviceId >>= fun c => phase0 i c (storeB i arg1 c (phase2 i c (phase3 i arg2 c (pure ⟨⟩)))) := by
  rw [Gen.cc0_body_eq_skeleton]; unfold Gen.cc0_body_skel; symm
  refine congrArg (fun f => bind (Prog.lift TpuEff.deviceId) f) (funext fun c => ?_)
  refine cond_eq (over (sigB c) all16) ?_ (fun h => ?_)
  swap
  · rw [show k0_part1 (F := F) i arg1 harg1 arg2 harg2 (Memref.whole cc0_scratch0) harg3 cc0_scratch1 cc0_scratch2 c _ h = _ from part1_eq i arg1 harg1 arg2 harg2 harg3 c h, over_bind, pure_bind]
    refine congrArg (over (sigB c) [0, 1, 2, 3, 4, 5, 6, 7, 8]) ?_
    iterate 7
      refine sigB_eq c ?_ (fun _ => rfl) ?_
      · clear h; revert c; decide +kernel
    rfl
  refine congrArg (storeB i arg1 c) ?_
  refine cond_eq (fun K => semWaitWord barS 15#32 >>= fun _ => over (sendB c 0) all16 K) ?_ (fun h => ?_)
  swap
  · rw [show k0_part2 (F := F) i arg1 harg1 arg2 harg2 (Memref.whole cc0_scratch0) harg3 cc0_scratch1 cc0_scratch2 c _ h = _ from part2_eq i arg1 harg1 arg2 harg2 harg3 c h, bind_assoc]
    refine congrArg (semWaitWord barS 15#32 >>= ·) (funext fun _ => ?_)
    rw [over_bind, pure_bind]
    refine congrArg (over (sendB c 0) [0, 1, 2, 3, 4, 5, 6, 7, 8]) ?_
    iterate 7
      refine sendB_eq c 0 ?_ (fun _ => rfl) ?_ ?_ _ _ ?_
      iterate 3
        · clear h; revert c; decide +kernel
    rfl
  refine cond_eq (fun K => over (sendB c 1) all16 (over (recvB c 0) all16 (reading0 arg2 (over (recvB c 1) all16 (reading1 arg2
    (over (doneB c) all16 K)))))) ?_ (fun h => ?_)
  swap
  · rw [show k0_part9 (F := F) i arg1 harg1 arg2 harg2 (Memref.whole cc0_scratch0) harg3 cc0_scratch1 cc0_scratch2 c _ h = _ from part9_eq i arg1 harg1 arg2 harg2 harg3 c h, over_bind, over_bind, reading0_bind,
      over_bind, reading1_bind, over_bind, pure_bind]
    refine congrArg (over (sendB c 1) all16) (congrArg (over (recvB c 0) all16) (congrArg (reading0 arg2) (congrArg (over (recvB c 1) all16)
      (congrArg (reading1 arg2) (congrArg (over (doneB c) [0, 1, 2, 3, 4, 5, 6, 7, 8, 9, 10, 11, 12, 13, 14]) ?_)))))
    refine doneB_eq c ?_ ?_ ?_ _ _ ?_
    iterate 3
      · clear h; revert c; decide +kernel
    rfl
  rfl

end Parts

end Cert.KernelIdeal.AllReduce

end
-- ==== Proof.Cells.lean ====
/-
  The all-reduce kernel's protocol: its semaphores, its exchange buffer, and who pays whom with what.

  Every device `c` has a barrier semaphore, one send semaphore per device and wave and one receive semaphore per device and
  wave. Each is used for one round:

  * the barrier semaphore of `c` gets one unit from every other device `t`, and with it row `c` of `t`'s exchange buffer
    (for `c` to fill) and the knowledge that `t`'s receive semaphores for `c` are in use;
  * the receive semaphore `(s, w)` of `c` gets wave `w` of row `s` of `c`'s exchange buffer, filled with `s`'s sums;
  * the send semaphore `(t, w)` of `c` gets back the share of wave `w` of `c`'s own row that the copy to `t` read through.
-/
module

public import proofs.«01_k».proof.Proof.Blocks
public import Idealize.ShloMosaic.Lib.Rounds
public import Idealize.ShloMosaic.Lib.Transfers
public import Idealize.ShloMosaic.Lib.Tactic
public import Idealize.ShloMosaic.PureOps

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type}

/-! ## The resource algebra -/

/-- The pipeline library's part, and the protocol's: duties are named by devices. -/
abbrev UU : Type := UR sig nD τ × URounds (GSem nD τ sig) (Fin 16)

local notation "𝕄" => MT nD τ sig Unit (Elt F) ℕ UU ℕ

/-- The pipeline library's part of the algebra. -/
abbrev EP : Emb (UR sig nD τ) (MT nD τ sig Unit (Elt F) ℕ UU ℕ) := embL
/-- The protocol's part of the algebra. -/
abbrev ER : Emb (URounds (GSem nD τ sig) (Fin 16)) (MT nD τ sig Unit (Elt F) ℕ UU ℕ) := embR

/-! ## The semaphores and their roles -/

/-- Device `c`'s barrier semaphore. -/
abbrev barCell (c : Dev nD) : GSem nD τ sig := ((c : Thread nD τ), .reg barS)
/-- Device `c`'s semaphore for the leaving of wave `w` to `t`. -/
abbrev sendCell (c t : Dev nD) (w : Fin 2) : GSem nD τ sig := ((c : Thread nD τ), .dma (sendS t w))
/-- Device `c`'s semaphore for the arrival of wave `w` from `s`. -/
abbrev recvCell (c s : Dev nD) (w : Fin 2) : GSem nD τ sig := ((c : Thread nD τ), .dma (recvS s w))

/-- What a semaphore is for. -/
inductive Role : Type
  | bar
  | send (t : Fin 16) (w : Fin 2)
  | recv (s : Fin 16) (w : Fin 2)
  | other

/-- The role of a semaphore, from its number. -/
def role : SemLoc sig → Role
  | .reg _ => .bar
  | .dma d =>
    if 3 ≤ d.val ∧ d.val < 35 then .send (Fin.ofNat 16 ((d.val - 3) / 2)) (Fin.ofNat 2 ((d.val - 3) % 2))
    else if 35 ≤ d.val ∧ d.val < 67 then .recv (Fin.ofNat 16 ((d.val - 35) / 2)) (Fin.ofNat 2 ((d.val - 35) % 2))
    else .other

/-- The number of a send semaphore. -/
theorem sendS_val (t : Dev nD) (w : Fin 2) : (sendS t w).val = 3 + 2 * t.val + w.val := by revert t w; decide +kernel
/-- The number of a receive semaphore. -/
theorem recvS_val (t : Dev nD) (w : Fin 2) : (recvS t w).val = 35 + 2 * t.val + w.val := by revert t w; decide +kernel

/-- The barrier semaphore's role. -/
theorem role_bar : role (.reg barS) = .bar := rfl
/-- A send semaphore's role. -/
theorem role_send (t : Dev nD) (w : Fin 2) : role (.dma (sendS t w)) = .send t w := by
  have ht : t.val < 16 := t.isLt
  have hw := w.isLt
  unfold role
  simp only [sendS_val]
  rw [if_pos ⟨by omega, by omega⟩]
  congr 1 <;> apply Fin.ext <;> simp only [Fin.val_ofNat] <;> omega
/-- A receive semaphore's role. -/
theorem role_recv (t : Dev nD) (w : Fin 2) : role (.dma (recvS t w)) = .recv t w := by
  have ht : t.val < 16 := t.isLt
  have hw := w.isLt
  unfold role
  simp only [recvS_val]
  rw [if_neg (by omega), if_pos ⟨by omega, by omega⟩]
  congr 1 <;> apply Fin.ext <;> simp only [Fin.val_ofNat] <;> omega

/-- Send semaphores of different devices or waves differ. -/
theorem sendS_inj {t t' : Dev nD} {w w' : Fin 2} (h : sendS t w = sendS t' w') : t = t' ∧ w = w' := by
  have h := congrArg Fin.val h
  rw [sendS_val, sendS_val] at h
  exact ⟨Fin.ext (by omega), Fin.ext (by omega)⟩
/-- Receive semaphores of different devices or waves differ. -/
theorem recvS_inj {t t' : Dev nD} {w w' : Fin 2} (h : recvS t w = recvS t' w') : t = t' ∧ w = w' := by
  have h := congrArg Fin.val h
  rw [recvS_val, recvS_val] at h
  exact ⟨Fin.ext (by omega), Fin.ext (by omega)⟩
/-- No send semaphore is a receive semaphore. -/
theorem sendS_ne_recvS (t t' : Dev nD) (w w' : Fin 2) : sendS t w ≠ recvS t' w' := by
  intro h
  have h := congrArg Fin.val h
  rw [sendS_val, recvS_val] at h
  have ht : t.val < 16 := t.isLt
  omega

/-! ## The exchange buffer -/

/-- How many units a copy of wave `w` raises its semaphores by. -/
abbrev N (w : Fin 2) : ℕ := (rowM 0 w).view.dmaCredit
/-- A copy raises its semaphores by at least one unit. -/
theorem N_pos (w : Fin 2) : 0 < N w := by
  revert w; intro w; exact View.dmaCredit_pos _ (by revert w; decide)

/-- The blocks of 1024 rows of a device's array, as the grid's points fetch them. -/
def xblk (X : Dev nD → (main_arg0 : Ref sig .tc).ty.Contents (Elt F)) (r : Dev nD) (b : Fin grid0.N) : Vec F S1024x1024 .f32 :=
  (win0_0.blk b).view.read (Elt F) (X r)

/-- The point whose block holds row `j`. -/
def blkOf (j : ℕ) : Fin grid0.N := ⟨j / 1024 % 4, by rw [show grid0.N = 4 from Gen.N_0]; exact Nat.mod_lt _ (by decide)⟩

section Contents

variable [FloatOps F] (X : Dev nD → (main_arg0 : Ref sig .tc).ty.Contents (Elt F))

/-- What every device's exchange buffer holds in the end: in row `r` column `j`, device `r`'s sum of squares of row `j`. -/
def G : (cc0_scratch0 : Ref sig .tc).ty.Contents (Elt F) :=
  fun i : S16x4096.Idx => Gen.k0_pay1 (xblk X (i 0) (blkOf (i 1).val)) (fun a => match a with
    | ⟨0, _⟩ => ⟨0, Nat.zero_lt_one⟩
    | ⟨1, _⟩ => ⟨(i 1).val % 1024, Nat.mod_lt _ (Nat.zero_lt_succ 1023)⟩)

end Contents

/-- The elements of wave `w` of row `s`. -/
@[irreducible] def rowSet (s : Dev nD) (w : Fin 2) : Finset S16x4096.Idx :=
  (Rect.unit (s := S16x4096) ![s.val, waveOff w] (waveShape w).size (wave_inb s w)).set

/-- What an exchange buffer may hold. -/
abbrev Comm (F : FTy → Type) : Type := (cc0_scratch0 : Ref sig .tc).ty.Contents (Elt F)

/-- The elements `S` of device `c`'s exchange buffer, held in share `q` at contents `f`. -/
abbrev commPts (c : Dev nD) (S : Finset S16x4096.Idx) (q : PosShare TreeShare) (f : Comm F) : sProp 𝕄 :=
  ((c : Thread nD τ).loc cc0_scratch0) ↦[S]{q} f

/-- Wave `w` of row `s` of device `c`'s exchange buffer, held in share `q` at contents `f`. -/
abbrev rowPts (c s : Dev nD) (w : Fin 2) (q : PosShare TreeShare) (f : Comm F) : sProp 𝕄 := commPts c (rowSet s w) q f

/-- The same, named by the piece that a copy moves. -/
theorem rowPts_eq (c s : Dev nD) (w : Fin 2) (q : PosShare TreeShare) (f : Comm F) :
    (rowPts c s w q f : sProp 𝕄) = ((rowM s w).view.loc (c : Thread nD τ) ↦[(rowM s w).view.set]{q} f) := by
  have h : rowSet s w = (rowM s w).view.set := by unfold rowSet; exact (View.set_slice_whole cc0_scratch0 _).symm
  exact congrArg (fun S => commPts c S q f) h

/-- The share through which the copy to `t` reads; the piece at the device's own index stays for its own reads. -/
abbrev sh (t : Dev nD) : PosShare TreeShare := Transfers.dealOf fullShare (Finset.univ : Finset (Dev nD)) t

/-- Both waves of row `s` of device `c`'s exchange buffer, at contents not chosen. -/
def rowAny (c s : Dev nD) : sProp 𝕄 := iprop((∃ f, rowPts c s 0 fullShare f) ∗ (∃ f, rowPts c s 1 fullShare f))

/-! ## The schedule -/

/-- Paid to `c`'s barrier semaphore by `t`. -/
def barPay (c t : Dev nD) : sProp 𝕄 :=
  iprop(rowAny t c ∗ reached ER (recvCell t c 0) 0 ∗ reached ER (recvCell t c 1) 0)

section Sched

variable [FloatOps F] (X : Dev nD → (main_arg0 : Ref sig .tc).ty.Contents (Elt F))

/-- Paid to `c`'s receive semaphore `(s, w)` by `s`'s copy. -/
abbrev recvPay (c s : Dev nD) (w : Fin 2) : sProp 𝕄 := rowPts c s w fullShare (G X)
/-- Paid to `c`'s send semaphore `(t, w)` by its own copy to `t`. -/
abbrev sendPay (c t : Dev nD) (w : Fin 2) : sProp 𝕄 := rowPts c c w (sh t) (G X)

/-- Who pays a semaphore of device `c` in its one round. -/
def payers (c : Fin 16) : Role → Finset (Fin 16)
  | .bar => Finset.univ.erase c
  | .send t _ => {t}
  | .recv s _ => {s}
  | .other => ∅

/-- With how many units. -/
def units : Role → ℕ
  | .bar => 1
  | .send _ w => N w
  | .recv _ w => N w
  | .other => 1

/-- With which resources. -/
def pays (c : Dev nD) (d : Fin 16) : Role → sProp 𝕄
  | .bar => barPay c d
  | .send t w => sendPay X c t w
  | .recv s w => recvPay X c s w
  | .other => iprop(emp)

/-- The protocol: one round per semaphore. -/
def rd : Rounds.Schedule (GSem nD τ sig) (Fin 16) 𝕄 where
  duties g r := if r = 0 then payers g.1.1 (role g.2) else ∅
  unitless _ := False
  amount g _ _ := units (role g.2)
  payload g _ d := pays X g.1.1 d (role g.2)
  amount_pos g _ _ _ := by
    cases role g.2 with
    | bar => exact Nat.one_pos
    | send t w => exact N_pos w
    | recv t w => exact N_pos w
    | other => exact Nat.one_pos

/-- What a semaphore is paid with may be kept in its invariant. -/
instance rd_payload_storable (g : GSem nD τ sig) (r : ℕ) (d : Fin 16) :
    BI.Storable (upEmb : UEmb _ 𝕄) ((rd X).payload g r d) := by
  show BI.Storable upEmb (pays X g.1.1 d (role g.2))
  cases role g.2 <;> unfold pays
  · unfold barPay rowAny; infer_instance
  · infer_instance
  · infer_instance
  · infer_instance

variable (c : Dev nD)

/-- Every other device pays `c`'s barrier semaphore. -/
theorem duties_bar : (rd X).duties (barCell c) 0 = Finset.univ.erase c := rfl
/-- The copy to `t` alone pays its send semaphore. -/
theorem duties_send (t : Dev nD) (w : Fin 2) : (rd X).duties (sendCell c t w) 0 = {t} := by
  show (if 0 = 0 then payers c (role (.dma (sendS t w))) else ∅) = _
  rw [role_send]; rfl
/-- The copy from `s` alone pays its receive semaphore. -/
theorem duties_recv (s : Dev nD) (w : Fin 2) : (rd X).duties (recvCell c s w) 0 = {s} := by
  show (if 0 = 0 then payers c (role (.dma (recvS s w))) else ∅) = _
  rw [role_recv]; rfl
/-- After its one round nobody pays a semaphore. -/
theorem duties_later (g : GSem nD τ sig) : ∀ r, 1 ≤ r → (rd X).duties g r = ∅ := fun r hr => if_neg (by omega)

/-- A signal is one unit. -/
theorem amount_bar (d : Fin 16) : (rd X).amount (barCell c) 0 d = 1 := rfl
/-- A send semaphore is paid a copy's units. -/
theorem amount_send (t : Dev nD) (w : Fin 2) (d : Fin 16) : (rd X).amount (sendCell c t w) 0 d = N w := by
  show units (role (.dma (sendS t w))) = _
  rw [role_send]; rfl
/-- A receive semaphore is paid a copy's units. -/
theorem amount_recv (s : Dev nD) (w : Fin 2) (d : Fin 16) : (rd X).amount (recvCell c s w) 0 d = N w := by
  show units (role (.dma (recvS s w))) = _
  rw [role_recv]; rfl

/-- A barrier's round is over after fifteen units. -/
theorem expect_bar : (rd X).expect (barCell c) 0 = 15 := by
  unfold Schedule.expect Schedule.amountOf
  rw [duties_bar, Finset.sum_congr rfl fun d _ => amount_bar X c d, Finset.sum_const, Finset.card_erase_of_mem (Finset.mem_univ _)]
  rfl
/-- A send semaphore's round is over after one copy's units. -/
theorem expect_send (t : Dev nD) (w : Fin 2) : (rd X).expect (sendCell c t w) 0 = N w := by
  unfold Schedule.expect Schedule.amountOf; rw [duties_send, Finset.sum_singleton, amount_send]
/-- A receive semaphore's round is over after one copy's units. -/
theorem expect_recv (s : Dev nD) (w : Fin 2) : (rd X).expect (recvCell c s w) 0 = N w := by
  unfold Schedule.expect Schedule.amountOf; rw [duties_recv, Finset.sum_singleton, amount_recv]

/-- What a signal hands over. -/
theorem payload_bar (d : Dev nD) : (rd X).payload (barCell c) 0 d = barPay c d := rfl
/-- What a copy's leaving hands back. -/
theorem payload_send (t : Dev nD) (w : Fin 2) (d : Fin 16) : (rd X).payload (sendCell c t w) 0 d = sendPay X c t w := by
  show pays X c d (role (.dma (sendS t w))) = _
  rw [role_send]; rfl
/-- What a copy's arrival hands over. -/
theorem payload_recv (s : Dev nD) (w : Fin 2) (d : Fin 16) : (rd X).payload (recvCell c s w) 0 d = recvPay X c s w := by
  show pays X c d (role (.dma (recvS s w))) = _
  rw [role_recv]; rfl

/-- All that a barrier's round hands over. -/
theorem rest_bar : bigSep ((rd X).duties (barCell c) 0 \ ∅) (fun d => (rd X).payload (barCell c) 0 d)
    = bigSep (Finset.univ.erase c) fun t : Dev nD => barPay c t := by
  rw [Finset.sdiff_empty, duties_bar]; rfl
/-- All that a send semaphore's round hands over. -/
theorem rest_send (t : Dev nD) (w : Fin 2) :
    bigSep ((rd X).duties (sendCell c t w) 0 \ ∅) (fun d => (rd X).payload (sendCell c t w) 0 d) = sendPay X c t w := by
  rw [Finset.sdiff_empty, duties_send, bigSep_singleton, payload_send]
/-- All that a receive semaphore's round hands over. -/
theorem rest_recv (s : Dev nD) (w : Fin 2) :
    bigSep ((rd X).duties (recvCell c s w) 0 \ ∅) (fun d => (rd X).payload (recvCell c s w) 0 d) = recvPay X c s w := by
  rw [Finset.sdiff_empty, duties_recv, bigSep_singleton, payload_recv]

end Sched

/-! ## What a core owes; the levels -/

/-- The barrier units device `c` owes to the devices of a list. -/
def dueBar (c : Dev nD) : List (Dev nD) → CellTallies nD τ sig Unit
  | [] => 0
  | t :: l => dueBar c l + (if c = t then 0 else tallyAt (barCell t) () 1)
/-- The copies of wave `w` device `c` owes to the devices of a list. -/
def dueRecv (c : Dev nD) (w : Fin 2) : List (Dev nD) → CellTallies nD τ sig Unit
  | [] => 0
  | t :: l => dueRecv c w l + (if c = t then 0 else tallyAt (recvCell t c w) () (N w))

/-- All a device owes at the start. -/
def O₀ (c : Dev nD) : CellTallies nD τ sig Unit := dueBar c all16 + (dueRecv c 0 all16 + dueRecv c 1 all16)

/-- A debt of units at one semaphore is a debt at no other. -/
theorem tally_pos {g g' : GSem nD τ sig} {u : Unit} {n : ℕ} {p : Prop} [Decidable p]
    (h : 0 < (if p then (0 : CellTallies nD τ sig Unit) else tallyAt g () n) g' u) : g' = g := by
  split at h
  · exact absurd h (Nat.lt_irrefl 0)
  · rw [tallyAt_apply] at h
    split at h
    · next hg => exact hg.1
    · exact absurd h (Nat.lt_irrefl 0)

/-- The signals are owed to barrier semaphores only. -/
theorem dueBar_pos {c : Dev nD} {l : List (Dev nD)} {g : GSem nD τ sig} {u : Unit} (h : 0 < dueBar c l g u) : ∃ t, g = barCell t := by
  induction l with
  | nil => exact absurd h (Nat.lt_irrefl 0)
  | cons t l ih =>
    unfold dueBar at h
    rw [Pi.add_apply, Finsupp.add_apply] at h
    rcases Nat.add_pos_iff_pos_or_pos.mp h with h | h
    · exact ih h
    · exact ⟨t, tally_pos h⟩
/-- The copies of wave `w` are owed to receive semaphores of device `c`'s wave only. -/
theorem dueRecv_pos {c : Dev nD} {w : Fin 2} {l : List (Dev nD)} {g : GSem nD τ sig} {u : Unit} (h : 0 < dueRecv c w l g u) :
    ∃ t, g = recvCell t c w := by
  induction l with
  | nil => exact absurd h (Nat.lt_irrefl 0)
  | cons t l ih =>
    unfold dueRecv at h
    rw [Pi.add_apply, Finsupp.add_apply] at h
    rcases Nat.add_pos_iff_pos_or_pos.mp h with h | h
    · exact ih h
    · exact ⟨t, tally_pos h⟩

/-- The levels' domain: every semaphore of a TensorCore. -/
def L (g : GSem nD τ sig) : Finset Unit := if g.1.2 = .tc then {()} else ∅
/-- No other semaphore has a level. -/
theorem L_of_ne (g : GSem nD τ sig) (h : g.1.2 ≠ .tc) : L g = ∅ := if_neg h
/-- A TensorCore's semaphore has one. -/
theorem L_tc (c : Dev nD) (sm : SemLoc sig) : L ((c : Thread nD τ), sm) = {()} := if_pos rfl

/-- The level of a role: the barrier at 1, receives at 2, the rest at 0. -/
def rank : Role → ℕ
  | .bar => 1
  | .recv _ _ => 2
  | _ => 0
/-- The level of a semaphore. -/
def lv (g : GSem nD τ sig) (_ : Unit) : ℕ := rank (role g.2)

/-- A barrier semaphore stands at level 1. -/
theorem lv_bar (c : Dev nD) (u : Unit) : lv (barCell c) u = 1 := rfl
/-- A receive semaphore stands at level 2. -/
theorem lv_recv (c s : Dev nD) (w : Fin 2) (u : Unit) : lv (recvCell c s w) u = 2 := by
  show rank (role (.dma (recvS s w))) = 2
  rw [role_recv]; rfl

/-- Copies of both waves are owed to receive semaphores only. -/
theorem recvs_pos {c : Dev nD} {l l' : List (Dev nD)} {g : GSem nD τ sig} {u : Unit} (h : 0 < (dueRecv c 0 l + dueRecv c 1 l') g u) :
    ∃ t w, g = recvCell t c w := by
  rw [Pi.add_apply, Finsupp.add_apply] at h
  rcases Nat.add_pos_iff_pos_or_pos.mp h with h | h
  · obtain ⟨t, rfl⟩ := dueRecv_pos h; exact ⟨t, 0, rfl⟩
  · obtain ⟨t, rfl⟩ := dueRecv_pos h; exact ⟨t, 1, rfl⟩

/-- A device may wait at its barrier while it owes copies. -/
theorem mayWait_bar (c : Dev nD) :
    (levAts L lv : sProp 𝕄) ⊢ MayWait (c : Thread nD τ) (.reg barS) () (dueRecv c 0 all16 + dueRecv c 1 all16) :=
  MayOwe.of_cut (L := L) (lev := lv) 1 (fun p hp => by rw [Finset.mem_singleton.mp hp, L_tc]; exact Finset.mem_singleton_self _)
    (fun g u hg => by
      obtain ⟨t, w, rfl⟩ := recvs_pos hg
      rw [L_tc]; exact Finset.mem_singleton_self _)
    (fun p hp => by rw [Finset.mem_singleton.mp hp]; exact (lv_bar c ()).le)
    (fun g u hg => by
      obtain ⟨t, w, rfl⟩ := recvs_pos hg
      rw [lv_recv]; decide)

/-- What a device owes at the start lies above level 0. -/
theorem O₀_above {c : Dev nD} {g : GSem nD τ sig} {u : Unit} (h : 0 < O₀ c g u) : u ∈ L g ∧ 0 < lv g u := by
  unfold O₀ at h
  rw [Pi.add_apply, Finsupp.add_apply] at h
  rcases Nat.add_pos_iff_pos_or_pos.mp h with h | h
  · obtain ⟨t, rfl⟩ := dueBar_pos h
    exact ⟨by rw [L_tc]; exact Finset.mem_singleton_self _, by rw [lv_bar]; decide⟩
  · obtain ⟨t, w, rfl⟩ := recvs_pos h
    exact ⟨by rw [L_tc]; exact Finset.mem_singleton_self _, by rw [lv_recv]; decide⟩

end Cert.KernelIdeal.AllReduce

end
-- ==== Proof.Rows.lean ====
/-
  The pieces of the exchange buffer: rows, waves and shares, and how they split and join.
-/
module

public import proofs.«01_k».proof.Proof.Cells

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type}

local notation "𝕄" => MT nD τ sig Unit (Elt F) ℕ UU ℕ

/-! ## Which elements a piece has -/

/-- Which elements a wave of row `s` has. -/
theorem mem_row (s : Dev nD) (w : Fin 2) (i : S16x4096.Idx) :
    i ∈ rowSet s w ↔ (i 0).val = s.val ∧ waveOff w ≤ (i 1).val ∧ (i 1).val < waveOff w + waveLen w := by
  unfold rowSet
  rw [Rect.mem_set_unit, Fin.forall_fin_two]
  show (s.val ≤ (i 0).val ∧ (i 0).val < s.val + 1) ∧ (waveOff w ≤ (i 1).val ∧ (i 1).val < waveOff w + waveLen w) ↔ _
  constructor
  · rintro ⟨⟨h1, h2⟩, h3⟩; exact ⟨by omega, h3⟩
  · rintro ⟨h1, h3⟩; exact ⟨⟨by omega, by omega⟩, h3⟩

/-- The waves' columns: those below 3072, and the others. -/
theorem wave_cols (w w' : Fin 2) {n : ℕ} (h : waveOff w ≤ n ∧ n < waveOff w + waveLen w) (h' : waveOff w' ≤ n ∧ n < waveOff w' + waveLen w') : w = w' := by
  match w, w' with
  | 0, 0 => rfl
  | 1, 1 => rfl
  | 0, 1 => exact absurd h.2 (by show ¬ n < 0 + 3072; have : 3072 ≤ n := h'.1; omega)
  | 1, 0 => exact absurd h'.2 (by show ¬ n < 0 + 3072; have : 3072 ≤ n := h.1; omega)

/-- Every column is in a wave. -/
theorem wave_cover {n : ℕ} (h : n < 4096) : ∃ w : Fin 2, waveOff w ≤ n ∧ n < waveOff w + waveLen w := by
  by_cases hn : n < 3072
  · exact ⟨0, Nat.zero_le _, by show n < 0 + 3072; omega⟩
  · exact ⟨1, by show 3072 ≤ n; omega, by show n < 3072 + 1024; omega⟩

/-- Two pieces of the exchange buffer that share an element are the same. -/
theorem row_disjoint {s s' : Dev nD} {w w' : Fin 2} (h : ¬ (s = s' ∧ w = w')) : Disjoint (rowSet s w) (rowSet s' w') := by
  rw [Finset.disjoint_left]
  intro i hi hi'
  have h1 := (mem_row s w i).mp hi
  have h2 := (mem_row s' w' i).mp hi'
  exact h ⟨Fin.ext (h1.1.symm.trans h2.1), wave_cols w w' h1.2 h2.2⟩

/-- The elements of a wave, over all rows. -/
@[irreducible] def waveSet (w : Fin 2) : Finset S16x4096.Idx := Finset.univ.biUnion fun s : Dev nD => rowSet s w
/-- Which elements a wave has. -/
theorem mem_waveSet (w : Fin 2) (i : S16x4096.Idx) : i ∈ waveSet w ↔ waveOff w ≤ (i 1).val ∧ (i 1).val < waveOff w + waveLen w := by
  unfold waveSet
  rw [Finset.mem_biUnion]
  constructor
  · rintro ⟨s, -, h⟩; exact ((mem_row s w i).mp h).2
  · intro h; exact ⟨(i 0 : Fin 16), Finset.mem_univ _, (mem_row _ w i).mpr ⟨rfl, h⟩⟩

/-- The waves have no element in common. -/
theorem waves_disjoint : Disjoint (waveSet 0) (waveSet 1) := by
  rw [Finset.disjoint_left]
  intro i hi hi'
  exact absurd (wave_cols 0 1 ((mem_waveSet 0 i).mp hi) ((mem_waveSet 1 i).mp hi')) (by decide)

/-- The two waves are the whole exchange buffer. -/
theorem waves_univ : waveSet 0 ∪ waveSet 1 = (Finset.univ : Finset S16x4096.Idx) := by
  refine Finset.eq_univ_of_forall fun i => ?_
  obtain ⟨w, hw⟩ := wave_cover (n := (i 1).val) (i 1).isLt
  rw [Finset.mem_union]
  match w with
  | 0 => exact .inl ((mem_waveSet 0 i).mpr hw)
  | 1 => exact .inr ((mem_waveSet 1 i).mpr hw)

/-! ## Splitting and joining -/

/-- A wave of all rows in one share. -/
theorem wave_rows (c : Dev nD) (w : Fin 2) (q : PosShare TreeShare) (f : Comm F) :
    (bigSep Finset.univ fun s : Dev nD => (rowPts c s w q f : sProp 𝕄)) = commPts c (waveSet w) q f := by
  unfold waveSet
  exact (pointsTo_biUnion (ℓ := (c : Thread nD τ).loc cc0_scratch0) Finset.univ (fun s : Dev nD => rowSet s w)
    fun s _ s' _ h => row_disjoint fun h' => h h'.1).symm

/-- The exchange buffer whole is its two waves of all rows. -/
theorem comm_waves (c : Dev nD) (f : Comm F) :
    (((c : Thread nD τ).loc cc0_scratch0) ↦{fullShare} f : sProp 𝕄)
      = iprop((bigSep Finset.univ fun s : Dev nD => (rowPts c s 0 fullShare f : sProp 𝕄)) ∗ bigSep Finset.univ fun s : Dev nD => (rowPts c s 1 fullShare f : sProp 𝕄)) := by
  rw [wave_rows, wave_rows]
  refine Eq.trans ?_ (Idealize.SL.BI.Entails.antisymm
    (pointsTo_union (ℓ := (c : Thread nD τ).loc cc0_scratch0) waves_disjoint).1
    (pointsTo_union (ℓ := (c : Thread nD τ).loc cc0_scratch0) waves_disjoint).2)
  exact congrArg (fun S => commPts c S fullShare f) waves_univ.symm

/-- The exchange buffer at contents not chosen is all its rows so. -/
theorem comm_rows (c : Dev nD) :
    (iprop(∃ f : Comm F, ((c : Thread nD τ).loc cc0_scratch0) ↦{fullShare} f) : sProp 𝕄) ⊢ bigSep Finset.univ fun s : Dev nD => rowAny c s := by
  iintro ⟨%f, H⟩
  have h : (((c : Thread nD τ).loc cc0_scratch0) ↦{fullShare} f : sProp 𝕄) ⊢ bigSep Finset.univ fun s : Dev nD => (rowAny c s : sProp 𝕄) := by
    rw [comm_waves, ← bigSep_sep']
    refine bigSep_mono fun s _ => ?_
    unfold rowAny
    show (_ : sProp 𝕄) ⊢ _
    iintro ⟨Ha, Hb⟩
    isplitl [Ha]; · iexists f; iexact Ha
    iexists f; iexact Hb
  iapply h
  iexact H

/-- A piece is its own share and the shares of the others. -/
theorem row_deal (c d s : Dev nD) (w : Fin 2) (f : Comm F) :
    (rowPts d s w fullShare f : sProp 𝕄) = iprop(rowPts d s w (sh c) f ∗ bigSep (Finset.univ.erase c) fun t : Dev nD => (rowPts d s w (sh t) f : sProp 𝕄)) := by
  have h := Transfers.pointsTo_deal (ℓ := (d : Thread nD τ).loc cc0_scratch0) (Ix := Unit) (Name := ℕ) (U := UU) (Lvl := ℕ) (S := rowSet s w) (f := f) (Finset.univ : Finset (Dev nD)) ⟨0, Finset.mem_univ _⟩ fullShare
  refine h.trans ?_
  rw [bigSep_univ_at _ c]

/-- Reading a wave of all rows, the device's own row held in its own share only. -/
theorem wave_read (c : Dev nD) (w : Fin 2) (f : Comm F) :
    iprop((bigSep (Finset.univ.erase c) fun s : Dev nD => (rowPts c s w fullShare f : sProp 𝕄)) ∗ rowPts c c w (sh c) f)
      = iprop(commPts c (waveSet w) (sh c) f
        ∗ bigSep (Finset.univ.erase c) fun s : Dev nD => bigSep (Finset.univ.erase c) fun t : Dev nD => (rowPts c s w (sh t) f : sProp 𝕄)) := by
  rw [← wave_rows c w (sh c) f, bigSep_univ_at _ c,
    bigSep_congr (s := Finset.univ.erase c) (fun s _ => row_deal c c s w f), bigSep_sep']
  refine Idealize.SL.BI.Entails.antisymm ?_ ?_
  · show (_ : sProp 𝕄) ⊢ _
    iintro ⟨⟨Ha, Hb⟩, Hc⟩
    isplitr [Hb]
    · isplitl [Hc] <;> iassumption
    · iexact Hb
  · show (_ : sProp 𝕄) ⊢ _
    iintro ⟨⟨Hc, Ha⟩, Hb⟩
    isplitr [Hc]
    · isplitl [Ha] <;> iassumption
    · iexact Hc

/-! ## What lands -/

/-- What a copy of a piece leaves on the piece. -/
theorem landed (c s : Dev nD) (w : Fin 2) (fd fs : Comm F) :
    ((rowM s w).view.loc (c : Thread nD τ) ↦[(rowM s w).view.set]{fullShare} ((rowM s w).view.write (Elt F) fd ((rowM s w).view.read (Elt F) fs) Finset.univ) : sProp 𝕄)
      = rowPts c s w fullShare fs := by
  rw [rowPts_eq]
  refine pointsTo_congr fun i hi => ?_
  obtain ⟨x, -, rfl⟩ := Finset.mem_map.mp hi
  rw [View.write_emb_of_mem _ _ (Finset.mem_univ x), View.read_apply, cast_cast, cast_eq]

end Cert.KernelIdeal.AllReduce

end
-- ==== Proof.Steps.lean ====
/-
  One block of each communication phase, and a phase as a loop of its blocks.
-/
module

public import proofs.«01_k».proof.Proof.Rows
public import Idealize.ShloMosaic.Lib.Pipeline.BigSepL

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

/-- No loop needs a variant. -/
abbrev 𝒱₀ : Variants := Variants.none

/-- That device `c` runs `p` to a state where `Q` holds. -/
abbrev wps (c : Dev nD) {α : Type} (p : KProg F α) (Q : α → sProp 𝕄) : sProp 𝕄 :=
  wp frame (wpE (defs₀ (F := F)) 𝒱₀ (c : Thread nD τ) none) Set.univ p Q

/-! ## A phase -/

/-- A resource per device of a list other than `c`. -/
def others (c : Dev nD) (R : Dev nD → sProp 𝕄) (l : List (Dev nD)) : sProp 𝕄 :=
  bigSepL l fun t => if c = t then iprop(emp) else R t

/-- Over the list of all devices, a resource per device other than `c`. -/
theorem others_all (c : Dev nD) (R : Dev nD → sProp 𝕄) :
    others c R all16 = bigSep (Finset.univ.erase c) R := by
  unfold others
  rw [← bigSep_univ_eq_bigSepL (I := Dev nD) all16 (by decide) (by decide), bigSep_univ_at _ c, if_pos rfl,
    bigSep_congr (s := Finset.univ.erase c) (Ψ := R) fun t ht => if_neg (Finset.ne_of_mem_erase ht).symm]
  exact Idealize.SL.BI.equiv_iff.mp emp_sep

/-- A loop that turns each other device's `R` into its `R'`, moving a state `S` over the devices yet to come. -/
theorem over_list (c : Dev nD) (f : Dev nD → KProg F PUnit) (P : sProp 𝕄) [BI.Persistent P] (R R' : Dev nD → sProp 𝕄) (S : List (Dev nD) → sProp 𝕄)
    (hown : f c = pure ⟨⟩) (hS : ∀ l, S (c :: l) ⊢ S l)
    (h : ∀ t l (Q : PUnit → sProp 𝕄), c ≠ t → iprop(P ∗ R t ∗ S (t :: l) ∗ ((R' t ∗ S l) -∗ Q ⟨⟩)) ⊢ wps c (f t) Q)
    {α : Type} (K : KProg F α) (Q : α → sProp 𝕄) (l : List (Dev nD)) :
    iprop(P ∗ others c R l ∗ S l ∗ ((others c R' l ∗ S []) -∗ wps c K Q)) ⊢ wps c (over f l K) Q := by
  induction l generalizing Q with
  | nil =>
    iintro ⟨-, -, HS, Hk⟩
    iapply Hk
    isplitr
    · unfold others; rw [bigSepL_nil]; iempintro
    · iexact HS
  | cons t l ih =>
    show _ ⊢ wps c (f t >>= fun _ => over f l K) Q
    unfold wps; rw [wp_bind]
    rw [show others c R (t :: l) = iprop((if c = t then iprop(emp) else R t) ∗ others c R l) from bigSepL_cons' _ _ _,
      show others c R' (t :: l) = iprop((if c = t then iprop(emp) else R' t) ∗ others c R' l) from bigSepL_cons' _ _ _]
    by_cases hct : c = t
    · subst hct
      rw [if_pos rfl, if_pos rfl, hown]
      show _ ⊢ wp _ _ _ (Prog.ret _) _
      rw [wp_ret]
      iintro ⟨#HP, ⟨-, HR⟩, HS, Hk⟩
      imodintro
      iapply (ih Q)
      isplitr; · iexact HP
      isplitl [HR]; · iexact HR
      isplitl [HS]; · iapply (hS l); iexact HS
      iintro ⟨HR', HS'⟩
      iapply Hk
      isplitl [HR']
      · isplitr; · iempintro
        iexact HR'
      · iexact HS'
    · rw [if_neg hct, if_neg hct]
      iintro ⟨#HP, ⟨Ht, HR⟩, HS, Hk⟩
      iapply (h t l _ hct)
      isplitr; · iexact HP
      isplitl [Ht]; · iexact Ht
      isplitl [HS]; · iexact HS
      iintro ⟨Ht', HS⟩
      iapply (ih Q)
      isplitr; · iexact HP
      isplitl [HR]; · iexact HR
      isplitl [HS]; · iexact HS
      iintro ⟨HR', HS'⟩
      iapply Hk
      isplitl [HR' Ht']
      · isplitl [Ht'] <;> iassumption
      · iexact HS'

/-- The same over all devices. -/
theorem over_spec (c : Dev nD) (f : Dev nD → KProg F PUnit) (P : sProp 𝕄) [BI.Persistent P] (R R' : Dev nD → sProp 𝕄) (S : List (Dev nD) → sProp 𝕄)
    (hown : f c = pure ⟨⟩) (hS : ∀ l, S (c :: l) ⊢ S l)
    (h : ∀ t l (Q : PUnit → sProp 𝕄), c ≠ t → iprop(P ∗ R t ∗ S (t :: l) ∗ ((R' t ∗ S l) -∗ Q ⟨⟩)) ⊢ wps c (f t) Q)
    {α : Type} (K : KProg F α) (Q : α → sProp 𝕄) :
    iprop(P ∗ bigSep (Finset.univ.erase c) R ∗ S all16 ∗ ((bigSep (Finset.univ.erase c) R' ∗ S []) -∗ wps c K Q)) ⊢ wps c (over f all16 K) Q := by
  rw [← others_all c R, ← others_all c R']
  exact over_list c f P R R' S hown hS h K Q all16

/-! ## The records -/

/-- A device's own scoped semaphores: sends (`true`) and receives (`false`), per device and wave. -/
def osem : Bool × Dev nD × Fin 2 → SemLoc sig
  | (true, t, w) => .dma (sendS t w)
  | (false, t, w) => .dma (recvS t w)

/-- A device's own semaphores are all different. -/
theorem osem_inj : Function.Injective osem := by
  rintro ⟨k, t, w⟩ ⟨k', t', w'⟩ h
  cases k <;> cases k' <;> unfold osem at h <;> injection h with h
  · obtain ⟨rfl, rfl⟩ := recvS_inj h; rfl
  · exact absurd h.symm (sendS_ne_recvS _ _ _ _)
  · exact absurd h (sendS_ne_recvS _ _ _ _)
  · obtain ⟨rfl, rfl⟩ := sendS_inj h; rfl

/-- None of a device's own scoped semaphores is the barrier's. -/
theorem osem_ne_bar (k : Bool × Dev nD × Fin 2) : osem k ≠ .reg barS := by
  obtain ⟨k, t, w⟩ := k
  cases k <;> exact fun h => by unfold osem at h; injection h

/-- The devices' barrier semaphores. -/
def barEmb : Dev nD ↪ GSem nD τ sig := ⟨fun c => barCell c, fun _ _ h => congrArg (fun g : GSem nD τ sig => g.1.1) h⟩
/-- The devices' own scoped semaphores. -/
def scEmb : Dev nD × (Bool × Dev nD × Fin 2) ↪ GSem nD τ sig :=
  ⟨fun ck => ((ck.1 : Thread nD τ), osem ck.2), fun _ _ h =>
    Prod.ext (congrArg (fun g : GSem nD τ sig => g.1.1) h) (osem_inj (congrArg Prod.snd h))⟩

/-- All barrier semaphores. -/
abbrev barCells : Finset (GSem nD τ sig) := Finset.univ.map barEmb
/-- All scoped semaphores of the protocol. -/
abbrev scCells : Finset (GSem nD τ sig) := Finset.univ.map scEmb

/-- A barrier semaphore belongs to the protocol. -/
theorem bar_mem (c : Dev nD) : barCell c ∈ (barCells ∪ scCells : Finset (GSem nD τ sig)) :=
  Finset.mem_union_left _ (Finset.mem_map_of_mem barEmb (Finset.mem_univ c))
/-- A send semaphore belongs to the protocol. -/
theorem send_mem (c t : Dev nD) (w : Fin 2) : sendCell c t w ∈ (barCells ∪ scCells : Finset (GSem nD τ sig)) :=
  Finset.mem_union_right _ (Finset.mem_map_of_mem scEmb (Finset.mem_univ (c, (true, t, w))))
/-- A receive semaphore belongs to the protocol. -/
theorem recv_mem (c s : Dev nD) (w : Fin 2) : recvCell c s w ∈ (barCells ∪ scCells : Finset (GSem nD τ sig)) :=
  Finset.mem_union_right _ (Finset.mem_map_of_mem scEmb (Finset.mem_univ (c, (false, s, w))))

variable (X : Dev nD → (main_arg0 : Ref sig .tc).ty.Contents (Elt F))

/-- What every device knows: every semaphore follows the protocol, and every barrier semaphore is in use. -/
def records (κ : GSem nD τ sig → ℕ) : sProp 𝕄 :=
  iprop((bigSep (barCells ∪ scCells) fun g => cellInv ER (rd X) (κ g) g) ∗ bigSep barCells fun g => reached ER g 0)

/-- The records may be used any number of times. -/
instance records_persistent (κ : GSem nD τ sig → ℕ) : BI.Persistent (records X κ) := by unfold records; infer_instance

/-- The records say of each semaphore that it follows the protocol. -/
theorem records_inv (κ : GSem nD τ sig → ℕ) {g : GSem nD τ sig} (hg : g ∈ (barCells ∪ scCells : Finset (GSem nD τ sig))) :
    records X κ ⊢ (cellInv ER (rd X) (κ g) g : sProp 𝕄) := by
  unfold records
  iintro ⟨#H, -⟩
  have h : (bigSep (barCells ∪ scCells) fun g => (cellInv ER (rd X) (κ g) g : sProp 𝕄)) ⊢ cellInv ER (rd X) (κ g) g := bigSep_elim hg
  iapply h
  iexact H

/-- The records say of each barrier semaphore that it is in use. -/
theorem records_reached (κ : GSem nD τ sig → ℕ) (c : Dev nD) : records X κ ⊢ (reached ER (barCell c) 0 : sProp 𝕄) := by
  unfold records
  iintro ⟨-, #H⟩
  have h : (bigSep barCells fun g => (reached ER g 0 : sProp 𝕄)) ⊢ reached ER (barCell c) 0 := bigSep_elim (Finset.mem_map_of_mem barEmb (Finset.mem_univ c))
  iapply h
  iexact H

variable (κ : GSem nD τ sig → ℕ)

/-- A semaphore whose round is over gives its counter back at zero. -/
theorem close_cell (g : GSem nD τ sig) (hg : g ∈ (barCells ∪ scCells : Finset (GSem nD τ sig))) :
    iprop(records X κ ∗ atPos ER g (0 + 1) ∅ 0) ⊢ (|={Set.univ}=> semVal g 0 : sProp 𝕄) := by
  iintro ⟨#HP, Hat⟩
  iapply (Rounds.cell_close ER (rd X) (Set.mem_univ (κ g)) id (duties_later X g))
  isplitr; · iapply (records_inv X κ hg); iexact HP
  iexact Hat

/-! ## The blocks -/

/-- The signals owed to a list are those owed to its tail, and one to its head. -/
theorem dueBar_cons {c t : Dev nD} (h : c ≠ t) (l : List (Dev nD)) (O : CellTallies nD τ sig Unit) :
    dueBar c (t :: l) + O = (dueBar c l + O) + tallyAt (barCell t) () 1 := by
  show (dueBar c l + (if c = t then 0 else tallyAt (barCell t) () 1)) + O = _
  rw [if_neg h, add_right_comm]
/-- The copies owed to a list are those owed to its tail, and one to its head. -/
theorem dueRecv_cons (w : Fin 2) {c t : Dev nD} (h : c ≠ t) (l : List (Dev nD)) (O : CellTallies nD τ sig Unit) :
    dueRecv c w (t :: l) + O = (dueRecv c w l + O) + tallyAt (recvCell t c w) () (N w) := by
  show (dueRecv c w l + (if c = t then 0 else tallyAt (recvCell t c w) () (N w))) + O = _
  rw [if_neg h, add_right_comm]

/-- A copy of wave `w` of any row is worth the same. -/
theorem amount_row (s : Dev nD) (w : Fin 2) (d : DmaSem sig) : (rowM s w).view.amount (.dma d) = N w := rfl

/-- Telling device `t`: a barrier unit, and with it this device's row `t`. -/
theorem sigB_spec (c t : Dev nD) (l : List (Dev nD)) (O : CellTallies nD τ sig Unit) (Q : PUnit → sProp 𝕄) (hct : c ≠ t) :
    iprop(records X κ ∗ (dutyTok ER (barCell t) 0 c ∗ barPay t c) ∗ (∃ W, owes (c : Thread nD τ) (dueBar c (t :: l) + O) W)
      ∗ ((emp ∗ (∃ W, owes (c : Thread nD τ) (dueBar c l + O) W)) -∗ Q ⟨⟩)) ⊢ wps c (sigB c t) Q := by
  unfold sigB wps; rw [if_pos hct]
  show _ ⊢ wp _ _ _ (Prog.op (TpuEff.semSignal (t : Thread nD τ) barS 1) .ret) _
  iintro ⟨#HP, ⟨Ht, Hpay⟩, ⟨%W, HO⟩, Hk⟩
  iapply (Rounds.wp_signal 𝒱₀ ER (rd X) (c : Thread nD τ) none (dst := (t : Thread nD τ)) (sem := barS) (r := 0) (d := c) (κ := κ (barCell t))
      (by rw [duties_bar]; exact Finset.mem_erase.mpr ⟨hct, Finset.mem_univ _⟩) (amount_bar X t c) () (dueBar c l + O)
      (dueBar_cons hct l O)) $$ [HO Ht Hpay]
  · isplitr; · iapply (records_inv X κ (bar_mem t)); iexact HP
    isplitl [HO]; · iexact HO
    isplitl [Ht]; · iexact Ht
    isplitl [Hpay]; · rw [payload_bar]; iexact Hpay
    iapply (records_reached X κ t); iexact HP
  iintro HO
  rw [wp_ret]
  imodintro
  iapply Hk
  isplitr; · iempintro
  iexists W; iexact HO

/-- What a copy of wave `w` to `t` needs: the tokens of its two ends, its share of the row, and the row of `t` it fills. -/
def sendRes (c : Dev nD) (w : Fin 2) (t : Dev nD) : sProp 𝕄 :=
  iprop(dutyTok ER (sendCell c t w) 0 t ∗ reached ER (sendCell c t w) 0 ∗ dutyTok ER (recvCell t c w) 0 c ∗ reached ER (recvCell t c w) 0
    ∗ rowPts c c w (sh t) (G X) ∗ ∃ f, rowPts t c w fullShare f)

/-- Starting a copy pays the debt to the receiver's semaphore and gives the credit to wait at the own send semaphore. -/
theorem sendB_spec (c : Dev nD) (w : Fin 2) (t : Dev nD) (l : List (Dev nD)) (O : CellTallies nD τ sig Unit) (Q : PUnit → sProp 𝕄) (hct : c ≠ t) :
    iprop(records X κ ∗ sendRes X c w t ∗ (∃ W, owes (c : Thread nD τ) (dueRecv c w (t :: l) + O) W)
      ∗ ((cred (tallyAt (sendCell c t w) () (N w)) ∗ (∃ W, owes (c : Thread nD τ) (dueRecv c w l + O) W)) -∗ Q ⟨⟩)) ⊢ wps c (sendB c w t) Q := by
  unfold sendB wps sendRes; rw [if_pos hct]
  unfold Prog.lift
  iintro ⟨#HP, ⟨Ht₁, Hr₁, Ht₂, Hr₂, Hs, ⟨%f, Hd⟩⟩, ⟨%W, HO⟩, Hk⟩
  iapply (Rounds.wp_send_pointsTo 𝒱₀ ER (rd X) (c : Thread nD τ) none (c' := (t : Thread nD τ)) (src := rowM c w) (dst := rowM c w)
      (sS := .dma (sendS t w)) (sem := .dma (recvS c w)) (q := sh t) (fs := G X) (κ₁ := κ (sendCell c t w)) (κ₂ := κ (recvCell t c w))
      (r₁ := 0) (r₂ := 0) (d₁ := t) (d₂ := c) (fd := f)
      (by rw [duties_send]; exact Finset.mem_singleton_self _) (by rw [duties_recv]; exact Finset.mem_singleton_self _)
      () () (N w) (amount_row c w _) (amount_send X c t w t) (amount_recv X t c w c) (dueRecv c w l + O) (dueRecv_cons w hct l O) (W := W)
      (by rw [payload_send]; exact Entails.of_eq (rowPts_eq c c w (sh t) (G X)).symm)
      (by rw [payload_recv]; exact Entails.of_eq (landed t c w f (G X)))) $$ [Hs Hd HO Ht₁ Hr₁ Ht₂ Hr₂]
  · isplitr; · iapply (records_inv X κ (send_mem c t w)); iexact HP
    isplitr; · iapply (records_inv X κ (recv_mem t c w)); iexact HP
    isplitl [Hs]; · iapply (Entails.of_eq (rowPts_eq c c w (sh t) (G X))); iexact Hs
    isplitl [Hd]; · iapply (Entails.of_eq (rowPts_eq t c w fullShare f)); iexact Hd
    isplitl [HO]; · iexact HO
    isplitl [Ht₁]; · iexact Ht₁
    isplitl [Hr₁]; · iexact Hr₁
    isplitl [Ht₂]; · iexact Ht₂
    iexact Hr₂
  iintro ⟨Hc, HO⟩
  rw [wp_ret]
  imodintro
  iapply Hk
  isplitl [Hc]; · iexact Hc
  iexists W; iexact HO

/-- Before a wait: the credit to wait with, and the semaphore at the start of its round. -/
def waitRes (g : GSem nD τ sig) (n : ℕ) : sProp 𝕄 := iprop(cred (tallyAt g () n) ∗ atPos ER g 0 ∅ 0)

/-- Waiting for wave `w` of device `s`'s row. -/
theorem recvB_spec (c : Dev nD) (w : Fin 2) (s : Dev nD) (Q : PUnit → sProp 𝕄) (hcs : c ≠ s) :
    iprop(records X κ ∗ waitRes (recvCell c s w) (N w) ∗ (∃ W, owes (c : Thread nD τ) (0 : CellTallies nD τ sig Unit) W)
      ∗ (((semVal (recvCell c s w) 0 ∗ recvPay X c s w) ∗ (∃ W, owes (c : Thread nD τ) (0 : CellTallies nD τ sig Unit) W)) -∗ Q ⟨⟩)) ⊢ wps c (recvB c w s) Q := by
  unfold recvB wps waitRes; rw [if_pos hcs]
  unfold Prog.lift
  iintro ⟨#HP, ⟨Hc, Hat⟩, ⟨%W, HO⟩, Hk⟩
  iapply (Rounds.wp_wait_rest_token 𝒱₀ ER (rd X) (c : Thread nD τ) none (κ := κ (recvCell c s w))
      (wpE_waitDma2_eq (src := rowM s w) (dst := rowM s w) 𝒱₀ (c : Thread nD τ) none Set.univ) (Set.mem_univ _) () (O := 0) (W := W) (R := 0) (m := 0) (T := ∅)
      ((Nat.zero_add _).trans (expect_recv X c s w).symm)) $$ [Hc HO Hat]
  · isplitr; · iapply (records_inv X κ (recv_mem c s w)); iexact HP
    isplitl [Hc]; · iexact Hc
    isplitl [HO]; · iexact HO
    isplitr; · rw [MayWait_zero]; iempintro
    iexact Hat
  iintro ⟨HO, Hat, -, Hpay⟩
  ihave Hp := (Entails.of_eq (rest_recv X c s w)) $$ Hpay
  rw [wp_ret]
  imod (close_cell X κ (recvCell c s w) (recv_mem c s w)) $$ [Hat] with Hv
  · isplitr; · iexact HP
    iexact Hat
  imodintro
  iapply Hk
  isplitl [Hv Hp]; · isplitl [Hv] <;> iassumption
  iexists _; iexact HO

/-- Waiting until the copy of wave `w` to `t` has left, before `k`. -/
theorem done_step (c t : Dev nD) (w : Fin 2) (k : PUnit → KProg F PUnit) (Q : PUnit → sProp 𝕄) :
    iprop(records X κ ∗ waitRes (sendCell c t w) (N w) ∗ (∃ W, owes (c : Thread nD τ) (0 : CellTallies nD τ sig Unit) W)
      ∗ (((semVal (sendCell c t w) 0 ∗ sendPay X c t w) ∗ (∃ W, owes (c : Thread nD τ) (0 : CellTallies nD τ sig Unit) W)) -∗ wps c (k ⟨⟩) Q))
    ⊢ wps c (Prog.op (TpuEff.waitDma2 (sendS t w) (rowM c w) (rowM c w) (View.wordExact_bits rfl) (View.wordExact_bits rfl)) k) Q := by
  unfold wps waitRes
  iintro ⟨#HP, ⟨Hc, Hat⟩, ⟨%W, HO⟩, Hk⟩
  iapply (Rounds.wp_wait_rest_token 𝒱₀ ER (rd X) (c : Thread nD τ) none (κ := κ (sendCell c t w))
      (wpE_waitDma2_eq (src := rowM c w) (dst := rowM c w) 𝒱₀ (c : Thread nD τ) none Set.univ) (Set.mem_univ _) () (O := 0) (W := W) (R := 0) (m := 0) (T := ∅)
      ((Nat.zero_add _).trans (expect_send X c t w).symm)) $$ [Hc HO Hat]
  · isplitr; · iapply (records_inv X κ (send_mem c t w)); iexact HP
    isplitl [Hc]; · iexact Hc
    isplitl [HO]; · iexact HO
    isplitr; · rw [MayWait_zero]; iempintro
    iexact Hat
  iintro ⟨HO, Hat, -, Hpay⟩
  ihave Hp := (Entails.of_eq (rest_send X c t w)) $$ Hpay
  imod (close_cell X κ (sendCell c t w) (send_mem c t w)) $$ [Hat] with Hv
  · isplitr; · iexact HP
    iexact Hat
  iapply Hk
  isplitl [Hv Hp]; · isplitl [Hv] <;> iassumption
  iexists _; iexact HO

/-- Once both copies to `t` have left, the shares they read through are back, and the send semaphores are at zero. -/
theorem doneB_spec (c t : Dev nD) (Q : PUnit → sProp 𝕄) (hct : c ≠ t) :
    iprop(records X κ ∗ (waitRes (sendCell c t 0) (N 0) ∗ waitRes (sendCell c t 1) (N 1)) ∗ (∃ W, owes (c : Thread nD τ) (0 : CellTallies nD τ sig Unit) W)
      ∗ ((((semVal (sendCell c t 0) 0 ∗ sendPay X c t 0) ∗ (semVal (sendCell c t 1) 0 ∗ sendPay X c t 1))
        ∗ (∃ W, owes (c : Thread nD τ) (0 : CellTallies nD τ sig Unit) W)) -∗ Q ⟨⟩)) ⊢ wps c (doneB c t) Q := by
  unfold doneB; rw [if_pos hct]
  show _ ⊢ wps c (Prog.op (TpuEff.waitDma2 (sendS t 0) (rowM c 0) (rowM c 0) (View.wordExact_bits rfl) (View.wordExact_bits rfl)) fun _ =>
    Prog.op (TpuEff.waitDma2 (sendS t 1) (rowM c 1) (rowM c 1) (View.wordExact_bits rfl) (View.wordExact_bits rfl)) .ret) Q
  iintro ⟨#HP, ⟨H₀, H₁⟩, HO, Hk⟩
  iapply (done_step X κ c t 0)
  isplitr; · iexact HP
  isplitl [H₀]; · iexact H₀
  isplitl [HO]; · iexact HO
  iintro ⟨H₀, HO⟩
  iapply (done_step X κ c t 1)
  isplitr; · iexact HP
  isplitl [H₁]; · iexact H₁
  isplitl [HO]; · iexact HO
  iintro ⟨H₁, HO⟩
  unfold wps; rw [wp_ret]
  imodintro
  iapply Hk
  isplitl [H₀ H₁]; · isplitl [H₀] <;> iassumption
  iexact HO

end Cert.KernelIdeal.AllReduce

end
-- ==== Proof.Compute.lean ====
/-
  The computing blocks: the sums of squares of one block of rows, and the two readings of the exchange buffer.
-/
module

public import proofs.«01_k».proof.Proof.Steps
public import Idealize.ShloMosaic.Lib.Pipeline.ValueKit.Geometry

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Facts₀ Cert.KernelIdeal.Facts

variable {F : FTy → Type} [FloatOps F]

local notation "𝕄" => MT nD τ sig Unit (Elt F) ℕ UU ℕ

variable (X : Dev nD → (main_arg0 : Ref sig .tc).ty.Contents (Elt F))

/-! ## The sums of squares -/

/-- Contents `f` whose row `c` is right on the columns from `lo` to `hi`. -/
def Done (c : Dev nD) (lo hi : ℕ) (f : Comm F) : Prop :=
  ∀ i : S16x4096.Idx, (i 0).val = c.val → lo ≤ (i 1).val → (i 1).val < hi → f i = G X i

/-- A wave of a device's own row, right on the columns from `lo` to `hi`. -/
def rowDone (c : Dev nD) (w : Fin 2) (lo hi : ℕ) : sProp 𝕄 := iprop(∃ f : Comm F, ⌜Done X c lo hi f⌝ ∗ rowPts c c w fullShare f)

/-- A point writes into the device's own row. -/
theorem off1_row (t : Fin grid0.N) (c : Dev nD) : k0_off1 (grid0.coords t) c 0 = c.val := by revert t c; decide +kernel
/-- A point writes from the column at which its block of rows begins. -/
theorem off1_col (t : Fin grid0.N) (c : Dev nD) : k0_off1 (grid0.coords t) c 1 = 1024 * t.val := by revert t c; decide +kernel

/-- The piece of the exchange buffer that grid point `t` of device `c` writes. -/
abbrev chunk (t : Fin grid0.N) (c : Dev nD) : Rect S16x4096 :=
  Rect.unit (s := S16x4096) (k0_off1 (grid0.coords t) c) S1x1024.size (k0_off1_inb (grid0.coords t) c)

/-- Which elements a point writes: those of the device's row whose columns number the block's rows. -/
theorem mem_chunk (t : Fin grid0.N) (c : Dev nD) (i : S16x4096.Idx) :
    i ∈ (chunk t c).set ↔ (i 0).val = c.val ∧ 1024 * t.val ≤ (i 1).val ∧ (i 1).val < 1024 * t.val + 1024 := by
  rw [Rect.mem_set_unit, Fin.forall_fin_two, off1_row, off1_col]
  show (c.val ≤ (i 0).val ∧ (i 0).val < c.val + 1) ∧ (1024 * t.val ≤ (i 1).val ∧ (i 1).val < 1024 * t.val + 1024) ↔ _
  constructor
  · rintro ⟨⟨h1, h2⟩, h3⟩; exact ⟨by omega, h3⟩
  · rintro ⟨h1, h3⟩; exact ⟨⟨by omega, by omega⟩, h3⟩

/-- A block whose rows lie in a wave is written into that wave of the own row. -/
theorem chunk_sub {t : Fin grid0.N} {c : Dev nD} {w : Fin 2} (hlo : waveOff w ≤ 1024 * t.val) (hhi : 1024 * t.val + 1024 ≤ waveOff w + waveLen w) :
    (chunk t c).set ⊆ rowSet c w := fun i hi => by
  have h := (mem_chunk t c i).mp hi
  exact (mem_row c w i).mpr ⟨h.1, by omega, by omega⟩

/-- After the write of a block's sums the row is right up to the block's end. -/
theorem done_write {t : Fin grid0.N} {c : Dev nD} {lo : ℕ} {f : Comm F} (h : Done X c lo (1024 * t.val) f) :
    Done X c lo (1024 * t.val + 1024)
      (((Memref.whole cc0_scratch0).access (chunk t c)).write (Elt F) f (Gen.k0_pay1 (xblk X c t)) Finset.univ) := by
  intro i hr hl hu
  by_cases hb : 1024 * t.val ≤ (i 1).val
  · have hmem := (mem_chunk t c i).mpr ⟨hr, hb, hu⟩
    rw [← Rect.map_emb_univ] at hmem
    obtain ⟨x, -, hx⟩ := Finset.mem_map.mp hmem
    have h0 : (x 0).val = 0 := Nat.lt_one_iff.mp (x 0).isLt
    have h1 : 1024 * t.val + (x 1).val = (i 1).val := by
      rw [← hx]
      exact (congrArg (· + (x 1).val) (off1_col t c).symm).trans (ValueKit.rect_emb_unit_val _ _ (k0_off1_inb (grid0.coords t) c) x 1).symm
    have hx1 : (x 1).val < 1024 := (x 1).isLt
    have ht : t.val < 4 := lt_of_lt_of_eq t.isLt Gen.N_0
    rw [← hx]
    refine (View.write_emb_of_mem (v := (Memref.whole cc0_scratch0).access (chunk t c)) f _ (Finset.mem_univ x)).trans ?_
    rw [hx]
    have hdev : (i 0 : Fin 16) = c := Fin.ext hr
    have hblk : blkOf (i 1).val = t := Fin.ext (by show (i 1).val / 1024 % 4 = t.val; omega)
    unfold G
    rw [hblk, show xblk X (i 0) t = xblk X c t from congrArg (fun d => xblk X d t) hdev]
    show Gen.k0_pay1 (xblk X c t) x = _
    refine congrArg _ (funext fun a => ?_)
    match a with
    | ⟨0, _⟩ => exact Fin.ext h0
    | ⟨1, _⟩ => exact Fin.ext (by show (x 1).val = (i 1).val % 1024; omega)
  · refine (View.write_of_not_mem (v := (Memref.whole cc0_scratch0).access (chunk t c)) f _ Finset.univ ?_).trans (h i hr hl (by omega))
    intro hm
    have hm' : i ∈ (chunk t c).set := by
      rw [← View.set_slice_whole cc0_scratch0]; exact View.setOn_subset_set _ _ hm
    exact hb ((mem_chunk t c i).mp hm').2.1

/-- Reading a whole array of two axes. -/
theorem readAt_all {s : Shape} {sp : Space} (m : Memref sig .tc sp s .f32) (off : Fin s.rank → ℕ) (h : ∀ a, off a = 0) (inb : ∀ a, off a + s.size a ≤ s.size a)
    (f : m.view.ty.Contents (Elt F)) : (m.access (Rect.unit off s.size inb)).read (Elt F) f = m.view.read (Elt F) f := by
  funext x
  show m.view.read (Elt F) f ((Rect.unit off s.size inb).emb x) = _
  refine congrArg _ (funext fun a => Fin.ext ?_)
  rw [ValueKit.rect_emb_unit_val, h, Nat.zero_add]

/-- A piece's elements are among the whole's. -/
theorem slice_sub {s : Shape} {sp : Space} (m : Memref sig .tc sp s .f32) (r : Rect s) : (m.access r).set ⊆ m.view.set := by
  rw [View.set_slice]; exact Finset.map_subset_map.mpr (Finset.subset_univ _)

/-- One block's sums, written into the device's own row. -/
theorem storeB_spec (t : Fin grid0.N) (c : Dev nD) (w : Fin 2) (lo : ℕ) (hlo : waveOff w ≤ 1024 * t.val) (hhi : 1024 * t.val + 1024 ≤ waveOff w + waveLen w)
    (arg1 : Memref sig .tc .vmem S1024x1024 .f32) (K : KProg F PUnit) (Q : PUnit → sProp 𝕄) :
    iprop(owns (c : Thread nD τ) arg1 fullShare (xblk X c t) ∗ rowDone X c w lo (1024 * t.val)
      ∗ ((owns (c : Thread nD τ) arg1 fullShare (xblk X c t) ∗ rowDone X c w lo (1024 * t.val + 1024)) -∗ wps c K Q))
    ⊢ wps c (storeB (grid0.coords t) arg1 c K) Q := by
  unfold owns rowDone storeB wps
  simp only [Prog.lift, Prog.bind_op, Prog.bind_ret]
  iintro ⟨⟨%fx, %hfx, Hx⟩, ⟨%f, %hf, Hr⟩, Hk⟩
  iapply (wp_load_rect (m := arg1) (r := Rect.unit (s := S1024x1024) ![0, 0] S1024x1024.size inb_S1024x1024_S1024x1024_0_0) (S := arg1.view.set) 𝒱₀ (c : Thread nD τ) none Set.univ (slice_sub arg1 _)) $$ Hx
  iintro Hx
  rw [readAt_all arg1 _ (by intro a; match a with | 0 => rfl | 1 => rfl) inb_S1024x1024_S1024x1024_0_0 fx, hfx]
  iapply (wp_load_rect (m := Memref.whole cc0_scratch0) (r := chunk t c) (S := rowSet c w) 𝒱₀ (c : Thread nD τ) none Set.univ
    (by rw [View.set_slice_whole]; exact chunk_sub hlo hhi)) $$ Hr
  iintro Hr
  iapply (wp_store (m := Memref.whole cc0_scratch0) (r := chunk t c) (S := rowSet c w) 𝒱₀ (c : Thread nD τ) none Set.univ
    ((View.setOn_subset_set _ _).trans (by rw [View.set_slice_whole]; exact chunk_sub hlo hhi))) $$ Hr
  iintro Hr
  iapply Hk
  isplitl [Hx]
  · iexists fx; isplitr; · ipureintro; exact hfx
    iexact Hx
  · iexists _; isplitr; · ipureintro; exact done_write X hf
    iexact Hr

/-! ## The readings -/

/-- Wave 0 and wave 1 of all rows, as the readings load them. -/
abbrev box0 : Rect S16x4096 := Rect.unit (s := S16x4096) ![0, 0] S16x3072.size inb_S16x4096_S16x3072_0_0
/-- Wave 1 of all rows. -/
abbrev box1 : Rect S16x4096 := Rect.unit (s := S16x4096) ![0, 3072] S16x1024.size inb_S16x4096_S16x1024_0_3072
/-- The entries of the result that each reading writes. -/
abbrev out0 : Rect S4096x1 := Rect.unit (s := S4096x1) ![0, 0] S3072x1.size inb_S4096x1_S3072x1_0_0
/-- The last 1024 entries of the result. -/
abbrev out1 : Rect S4096x1 := Rect.unit (s := S4096x1) ![3072, 0] S1024x1.size inb_S4096x1_S1024x1_3072_0

/-- Wave 0 of all devices' sums. -/
def sums0 : Vec F S16x3072 .f32 := ((Memref.whole cc0_scratch0).access box0).read (Elt F) (G X)
/-- Wave 1 of all devices' sums. -/
def sums1 : Vec F S16x1024 .f32 := ((Memref.whole cc0_scratch0).access box1).read (Elt F) (G X)

/-- What the first call writes: every row's scale. -/
def inv : Vec F S4096x1 .f32 := fun j : S4096x1.Idx =>
  if h : (j 0).val < 3072 then Gen.k0_pay3 Gen.k0_pay2 (sums0 X) (fun a => match a with
    | ⟨0, _⟩ => ⟨(j 0).val, h⟩
    | ⟨1, _⟩ => j 1)
  else Gen.k0_pay4 Gen.k0_pay2 (sums1 X) (fun a => match a with
    | ⟨0, _⟩ => ⟨(j 0).val - 3072, by have h' : (j 0).val < 4096 := (j 0).isLt; show (j 0).val - 3072 < 1024; omega⟩
    | ⟨1, _⟩ => j 1)

/-- Entries `d` of which the first 3072 are right. -/
def Half (d : Vec F S4096x1 .f32) : Prop := ∀ j : S4096x1.Idx, (j 0).val < 3072 → d j = inv X j

/-- The first reading loads nothing but wave 0. -/
theorem box0_sub : ((Memref.whole cc0_scratch0).access box0).set ⊆ waveSet 0 := fun i hi => by
  rw [View.set_slice_whole] at hi
  have h := (Rect.mem_set_unit.mp hi) 1
  exact (mem_waveSet 0 i).mpr ⟨Nat.zero_le _, h.2⟩

/-- The second reading loads nothing but wave 1. -/
theorem box1_sub : ((Memref.whole cc0_scratch0).access box1).set ⊆ waveSet 1 := fun i hi => by
  rw [View.set_slice_whole] at hi
  have h := (Rect.mem_set_unit.mp hi) 1
  exact (mem_waveSet 1 i).mpr ⟨h.1, h.2⟩

/-- After the first reading's write the first 3072 entries are right. -/
theorem half_write (m : Memref sig .tc .vmem S4096x1 .f32) (f : m.view.ty.Contents (Elt F)) :
    Half X (m.view.read (Elt F) ((m.access out0).write (Elt F) f (Gen.k0_pay3 Gen.k0_pay2 (sums0 X)) Finset.univ)) := by
  intro j hj
  have hj1 : (j 1).val < 1 := (j 1).isLt
  have hx : j = out0.emb (fun a => match a with | ⟨0, _⟩ => ⟨(j 0).val, hj⟩ | ⟨1, _⟩ => j 1) := by
    funext a
    match a with
    | ⟨0, _⟩ => exact Fin.ext (by rw [ValueKit.rect_emb_unit_val]; exact (Nat.zero_add _).symm)
    | ⟨1, _⟩ => exact Fin.ext (by rw [ValueKit.rect_emb_unit_val]; exact (Nat.zero_add _).symm)
  unfold inv
  rw [dif_pos hj]
  refine (congrArg (m.view.read (Elt F) _) hx).trans ?_
  exact View.read_slice_write_emb out0 f _ (Finset.mem_univ _)

/-- After the second reading's write too all entries are right. -/
theorem inv_write (m : Memref sig .tc .vmem S4096x1 .f32) (f : m.view.ty.Contents (Elt F)) (h : Half X (m.view.read (Elt F) f)) :
    m.view.read (Elt F) ((m.access out1).write (Elt F) f (Gen.k0_pay4 Gen.k0_pay2 (sums1 X)) Finset.univ) = inv X := by
  funext j
  have hj0 : (j 0).val < 4096 := (j 0).isLt
  by_cases hj : (j 0).val < 3072
  · refine (View.read_slice_write_of_not_mem out1 f _ Finset.univ ?_).trans (h j hj)
    rw [Rect.map_emb_univ]
    intro hm
    have := ((Rect.mem_set_unit.mp hm) 0).1
    exact absurd (show 3072 ≤ (j 0).val from this) (by omega)
  · have hx : j = out1.emb (fun a => match a with
        | ⟨0, _⟩ => ⟨(j 0).val - 3072, by show (j 0).val - 3072 < 1024; omega⟩
        | ⟨1, _⟩ => j 1) := by
      funext a
      match a with
      | ⟨0, _⟩ => exact Fin.ext (by rw [ValueKit.rect_emb_unit_val]; show (j 0).val = 3072 + ((j 0).val - 3072); omega)
      | ⟨1, _⟩ => exact Fin.ext (by rw [ValueKit.rect_emb_unit_val]; exact (Nat.zero_add _).symm)
    unfold inv
    rw [dif_neg hj]
    refine (congrArg (m.view.read (Elt F) _) hx).trans ?_
    exact View.read_slice_write_emb out1 f _ (Finset.mem_univ _)

/-- The first reading, from wave 0 of all rows, makes the first 3072 entries right and keeps the wave. -/
theorem reading0_spec (c : Dev nD) (q : PosShare TreeShare) (arg2 : Memref sig .tc .vmem S4096x1 .f32) (K : KProg F PUnit) (Q : PUnit → sProp 𝕄) :
    iprop(commPts c (waveSet 0) q (G X) ∗ (∃ d, owns (c : Thread nD τ) arg2 fullShare d)
      ∗ ((commPts c (waveSet 0) q (G X) ∗ (∃ d, ⌜Half X d⌝ ∗ owns (c : Thread nD τ) arg2 fullShare d)) -∗ wps c K Q))
    ⊢ wps c (reading0 arg2 K) Q := by
  unfold owns reading0 wps
  simp only [Prog.lift, Prog.bind_op, Prog.bind_ret]
  iintro ⟨Hc, ⟨%d, %f, %hf, Hy⟩, Hk⟩
  iapply (wp_load_rect (m := Memref.whole cc0_scratch0) (r := box0) (S := waveSet 0) (q := q) (f := G X) 𝒱₀ (c : Thread nD τ) none Set.univ box0_sub) $$ Hc
  iintro Hc
  iapply (wp_load_rect (m := arg2) (r := out0) (S := arg2.view.set) 𝒱₀ (c : Thread nD τ) none Set.univ (slice_sub arg2 _)) $$ Hy
  iintro Hy
  iapply (wp_store (m := arg2) (r := out0) (S := arg2.view.set) 𝒱₀ (c : Thread nD τ) none Set.univ ((View.setOn_subset_set _ _).trans (slice_sub arg2 _))) $$ Hy
  iintro Hy
  iapply Hk
  isplitl [Hc]; · iexact Hc
  iexists _
  isplitr; · ipureintro; exact half_write X arg2 f
  iexists _
  isplitr; · ipureintro; rfl
  iexact Hy

/-- The second reading, from wave 1 of all rows, makes all entries right and keeps the wave. -/
theorem reading1_spec (c : Dev nD) (q : PosShare TreeShare) (arg2 : Memref sig .tc .vmem S4096x1 .f32) (K : KProg F PUnit) (Q : PUnit → sProp 𝕄) :
    iprop(commPts c (waveSet 1) q (G X) ∗ (∃ d, ⌜Half X d⌝ ∗ owns (c : Thread nD τ) arg2 fullShare d)
      ∗ ((commPts c (waveSet 1) q (G X) ∗ owns (c : Thread nD τ) arg2 fullShare (inv X)) -∗ wps c K Q))
    ⊢ wps c (reading1 arg2 K) Q := by
  unfold owns reading1 wps
  simp only [Prog.lift, Prog.bind_op, Prog.bind_ret]
  iintro ⟨Hc, ⟨%d, %hd, %f, %hf, Hy⟩, Hk⟩
  subst hf
  iapply (wp_load_rect (m := Memref.whole cc0_scratch0) (r := box1) (S := waveSet 1) (q := q) (f := G X) 𝒱₀ (c : Thread nD τ) none Set.univ box1_sub) $$ Hc
  iintro Hc
  iapply (wp_load_rect (m := arg2) (r := out1) (S := arg2.view.set) 𝒱₀ (c : Thread nD τ) none Set.univ (slice_sub arg2 _)) $$ Hy
  iintro Hy
  iapply (wp_store (m := arg2) (r := out1) (S := arg2.view.set) 𝒱₀ (c : Thread nD τ) none Set.univ ((View.setOn_subset_set _ _).trans (slice_sub arg2 _))) $$ Hy
  iintro Hy
  iapply Hk
  isplitl [Hc]; · iexact Hc
  iexists _
  isplitr; · ipureintro; exact inv_write X arg2 f hd
  iexact Hy

end Cert.KernelIdeal.AllReduce

end
-- ==== Proof.Body.lean ====
/-
  The all-reduce kernel's body at each of its four grid points, as a step from one state of the device to the next.
-/
module

public import proofs.«01_k».proof.Proof.Compute

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Facts₀ Cert.KernelIdeal.Facts

variable {F : FTy → Type} [FloatOps F]

local notation "𝕄" => MT nD τ sig Unit (Elt F) ℕ UU ℕ

variable (X : Dev nD → (main_arg0 : Ref sig .tc).ty.Contents (Elt F)) (κ : GSem nD τ sig → ℕ)

/-! ## Resources per other device -/

/-- A resource for each device other than `c`. -/
abbrev oth (c : Dev nD) (R : Dev nD → sProp 𝕄) : sProp 𝕄 := bigSep (Finset.univ.erase c) R

/-- A resource per other device may be weakened device by device. -/
theorem oth_mono (c : Dev nD) {R R' : Dev nD → sProp 𝕄} (h : ∀ t, R t ⊢ R' t) : oth c R ⊢ oth c R' := bigSep_mono fun t _ => h t
/-- Two resources per other device are a pair per other device. -/
theorem oth_sep (c : Dev nD) (R R' : Dev nD → sProp 𝕄) : (oth c fun t => iprop(R t ∗ R' t)) = iprop(oth c R ∗ oth c R') := bigSep_sep' _ _ _

/-- A resource per own semaphore of device `c`: those for the other devices, and the four at its own index. -/
theorem keys_split (c : Dev nD) (Φ : Bool × Dev nD × Fin 2 → sProp 𝕄) :
    bigSep Finset.univ Φ = iprop(((oth c fun t => Φ (true, t, 0)) ∗ (oth c fun t => Φ (true, t, 1)) ∗ (oth c fun t => Φ (false, t, 0)) ∗ (oth c fun t => Φ (false, t, 1)))
      ∗ ((Φ (true, c, 0) ∗ Φ (true, c, 1)) ∗ (Φ (false, c, 0) ∗ Φ (false, c, 1)))) := by
  have hw : ∀ b : Bool, (bigSep Finset.univ fun p : Dev nD × Fin 2 => Φ (b, p)) = iprop(((oth c fun t => Φ (b, t, 0)) ∗ (oth c fun t => Φ (b, t, 1))) ∗ (Φ (b, c, 0) ∗ Φ (b, c, 1))) := fun b => by
    have h2 : (oth c fun t => bigSep Finset.univ fun w : Fin 2 => Φ (b, t, w)) = iprop((oth c fun t => Φ (b, t, 0)) ∗ (oth c fun t => Φ (b, t, 1))) :=
      (bigSep_congr fun t _ => bigSep_fin_two fun w => Φ (b, t, w)).trans (oth_sep c (fun t => Φ (b, t, 0)) fun t => Φ (b, t, 1))
    rw [bigSep_univ_prod, bigSep_univ_at _ c]
    refine (congrArg₂ (fun A B : sProp 𝕄 => iprop(A ∗ B)) (bigSep_fin_two fun w : Fin 2 => Φ (b, c, w)) h2).trans ?_
    refine Idealize.SL.BI.Entails.antisymm ?_ ?_
    · show (_ : sProp 𝕄) ⊢ _
      iintro ⟨H1, H2⟩; isplitl [H2] <;> iassumption
    · show (_ : sProp 𝕄) ⊢ _
      iintro ⟨H1, H2⟩; isplitl [H2] <;> iassumption
  have hb : bigSep Finset.univ Φ = iprop((bigSep Finset.univ fun p : Dev nD × Fin 2 => Φ (true, p)) ∗ (bigSep Finset.univ fun p : Dev nD × Fin 2 => Φ (false, p))) := by
    rw [bigSep_univ_prod, bigSep_univ_eq_bigSepL (I := Bool) [true, false] (by decide) (by decide), bigSepL_cons', bigSepL_singleton]
  rw [hb, hw, hw]
  refine Idealize.SL.BI.Entails.antisymm ?_ ?_
  · show (_ : sProp 𝕄) ⊢ _
    iintro ⟨⟨⟨H1, H2⟩, H3⟩, ⟨⟨H4, H5⟩, H6⟩⟩
    isplitl [H1 H2 H4 H5]
    · isplitl [H1]; · iexact H1
      isplitl [H2]; · iexact H2
      isplitl [H4] <;> iassumption
    · isplitl [H3] <;> iassumption
  · show (_ : sProp 𝕄) ⊢ _
    iintro ⟨⟨H1, H2, H4, H5⟩, ⟨H3, H6⟩⟩
    isplitl [H1 H2 H3]
    · isplitl [H1 H2]
      · isplitl [H1] <;> iassumption
      · iexact H3
    · isplitl [H4 H5]
      · isplitl [H4] <;> iassumption
      · iexact H6

/-! ## The states of a device between grid points -/

/-- What every device knows throughout: the protocol, and the levels. -/
def knows : sProp 𝕄 := iprop(records X κ ∗ levAts L lv)
/-- What every device knows may be used any number of times. -/
instance knows_persistent : BI.Persistent (knows X κ) := by unfold knows; infer_instance

/-- What telling `t` takes, beside this device's row `t`. -/
def sigRes (c t : Dev nD) : sProp 𝕄 := iprop(dutyTok ER (barCell t) 0 c ∗ reached ER (recvCell c t 0) 0 ∗ reached ER (recvCell c t 1) 0)
/-- The tokens of the two ends of the copy of wave `w` to `t`. -/
def tok (c : Dev nD) (w : Fin 2) (t : Dev nD) : sProp 𝕄 :=
  iprop(dutyTok ER (sendCell c t w) 0 t ∗ reached ER (sendCell c t w) 0 ∗ dutyTok ER (recvCell t c w) 0 c)
/-- The semaphores at the device's own index, which nothing uses. -/
def ownZ (c : Dev nD) : sProp 𝕄 :=
  iprop((semVal (sendCell c c 0) 0 ∗ semVal (sendCell c c 1) 0) ∗ (semVal (recvCell c c 0) 0 ∗ semVal (recvCell c c 1) 0))
/-- What a device keeps up to the last point: its waits for the others' rows, and the unused semaphores. -/
def base (c : Dev nD) : sProp 𝕄 :=
  iprop((oth c fun s => waitRes (recvCell c s 0) (N 0)) ∗ (oth c fun s => waitRes (recvCell c s 1) (N 1)) ∗ ownZ c)
/-- What a device keeps up to its wait at the barrier. -/
def early (c : Dev nD) : sProp 𝕄 :=
  iprop(waitRes (barCell c) 15 ∗ oth c (tok c 0) ∗ oth c (tok c 1) ∗ (oth c fun t => atPos ER (sendCell c t 0) 0 ∅ 0)
    ∗ (oth c fun t => atPos ER (sendCell c t 1) 0 ∅ 0) ∗ base c)
/-- The exchange buffer at contents not chosen. -/
def commAny (c : Dev nD) : sProp 𝕄 := iprop(∃ f : Comm F, ((c : Thread nD τ).loc cc0_scratch0) ↦{fullShare} f)
/-- Leave to copy wave `w` to `t`: row `c` of `t`'s exchange buffer, whose receive semaphore is in use. -/
def leave (c : Dev nD) (w : Fin 2) (t : Dev nD) : sProp 𝕄 := iprop(reached ER (recvCell t c w) 0 ∗ ∃ f, rowPts t c w fullShare f)

/-- Before the first point. -/
def S0 (c : Dev nD) : sProp 𝕄 := iprop(oth c (sigRes c) ∗ early c ∗ commAny c)
/-- After `n` points, one or two. -/
def S1 (c : Dev nD) (n : ℕ) : sProp 𝕄 := iprop(early c ∗ rowDone X c 0 0 (1024 * n) ∗ ∃ f, rowPts c c 1 fullShare f)
/-- Before the last point. -/
def S3 (c : Dev nD) : sProp 𝕄 :=
  iprop(semVal (barCell c) 0 ∗ oth c (tok c 1) ∗ oth c (leave c 1) ∗ (oth c fun t => waitRes (sendCell c t 0) (N 0))
    ∗ (oth c fun t => atPos ER (sendCell c t 1) 0 ∅ 0) ∗ base c ∗ rowPts c c 0 (sh c) (G X) ∗ ∃ f, rowPts c c 1 fullShare f)
/-- After the last point. -/
def S4 (c : Dev nD) : sProp 𝕄 :=
  iprop(semVal (barCell c) 0 ∗ (bigSep Finset.univ fun k : Bool × Dev nD × Fin 2 => semVal ((c : Thread nD τ), osem k) 0) ∗ commAny c)

/-- That the device owes `O`. -/
abbrev owing (c : Dev nD) (O : CellTallies nD τ sig Unit) : sProp 𝕄 := iprop(∃ W, owes (c : Thread nD τ) O W)

/-- A wave of the own row, right on all its columns, is at the final contents. -/
theorem row_done (c : Dev nD) (w : Fin 2) : rowDone X c w (waveOff w) (waveOff w + waveLen w) ⊢ (rowPts c c w fullShare (G X) : sProp 𝕄) := by
  unfold rowDone
  iintro ⟨%f, %hf, H⟩
  have h : (rowPts c c w fullShare f : sProp 𝕄) = rowPts c c w fullShare (G X) := pointsTo_congr fun i hi => by
    have := (mem_row c w i).mp hi
    exact hf i this.1 this.2.1 this.2.2
  iapply (Entails.of_eq h); iexact H

/-! ## The conditions at the four points -/

/-- The signals are at the first point. -/
theorem cond1_at (t : Fin grid0.N) : k0_cond1 (grid0.coords t) = 1#1 ↔ t.val = 0 := by revert t; decide +kernel
/-- The barrier's wait and wave 0's copies are at the third point. -/
theorem cond18_at (t : Fin grid0.N) : k0_cond18 (grid0.coords t) = 1#1 ↔ t.val = 2 := by revert t; decide +kernel
/-- Wave 1's copies, the waits and the readings are at the fourth point. -/
theorem cond35_at (t : Fin grid0.N) : k0_cond35 (grid0.coords t) = 1#1 ↔ t.val = 3 := by revert t; decide +kernel

/-- The body at a point, after the device's index is read. -/
abbrev pointBody (t : Fin grid0.N) (arg1 : Memref sig .tc .vmem S1024x1024 .f32) (arg2 : Memref sig .tc .vmem S4096x1 .f32) (c : Dev nD) : KProg F PUnit :=
  phase0 (grid0.coords t) c (storeB (grid0.coords t) arg1 c (phase2 (grid0.coords t) c (phase3 (grid0.coords t) arg2 c (Prog.ret ⟨⟩))))

/-! ## The points -/

variable (arg1 : Memref sig .tc .vmem S1024x1024 .f32) (arg2 : Memref sig .tc .vmem S4096x1 .f32)

/-- The first point: tell the others, compute the first block. -/
theorem point0 (c : Dev nD) (t : Fin grid0.N) (ht : t.val = 0) (Q : PUnit → sProp 𝕄) :
    iprop(knows X κ ∗ S0 c ∗ owns (c : Thread nD τ) arg1 fullShare (xblk X c t) ∗ owing c (O₀ c)
      ∗ ((S1 X c 1 ∗ owns (c : Thread nD τ) arg1 fullShare (xblk X c t) ∗ owing c (dueRecv c 0 all16 + dueRecv c 1 all16)) -∗ Q ⟨⟩))
    ⊢ wps c (pointBody t arg1 arg2 c) Q := by
  unfold pointBody phase0 phase2 phase3
  rw [if_pos ((cond1_at t).mpr ht), if_neg (fun h => by have := (cond18_at t).mp h; omega), if_neg (fun h => by have := (cond35_at t).mp h; omega)]
  unfold S0 S1 knows
  iintro ⟨⟨#HP, #Hlev⟩, ⟨Hsig, He, Hcomm⟩, Hx, HO, Hk⟩
  ihave Hrows := (comm_rows (F := F) c) $$ [Hcomm]
  · unfold commAny; iexact Hcomm
  ihave Hrows := (Entails.of_eq (bigSep_univ_at (fun s : Dev nD => (rowAny c s : sProp 𝕄)) c)) $$ Hrows
  icases Hrows with ⟨Hown, Hrows⟩
  have hjoin : (iprop(oth c (sigRes c) ∗ oth c (rowAny c)) : sProp 𝕄) ⊢ oth c fun t => iprop(dutyTok ER (barCell t) 0 c ∗ barPay t c) := by
    rw [← oth_sep]
    refine oth_mono c fun t => ?_
    unfold sigRes barPay
    iintro ⟨⟨H1, H2, H3⟩, H4⟩
    isplitl [H1]; · iexact H1
    isplitl [H4]; · iexact H4
    isplitl [H2] <;> iassumption
  ihave Hsig := hjoin $$ [Hsig Hrows]
  · isplitl [Hsig] <;> iassumption
  unfold rowAny
  icases Hown with ⟨⟨%f0, H0⟩, H1⟩
  iapply (over_spec c (sigB c) (records X κ) (fun t => iprop(dutyTok ER (barCell t) 0 c ∗ barPay t c)) (fun _ => iprop(emp))
    (fun l => owing c (dueBar c l + (dueRecv c 0 all16 + dueRecv c 1 all16)))
    (by unfold sigB; exact if_neg (fun h => h rfl))
    (fun l => Entails.of_eq (by show owing c (dueBar c l + (if c = c then 0 else _) + _) = _; rw [if_pos rfl, add_zero]))
    (fun t l Q hct => sigB_spec X κ c t l _ Q hct))
  isplitr; · iexact HP
  isplitl [Hsig]; · iexact Hsig
  isplitl [HO]; · iexact HO
  iintro ⟨-, HO⟩
  iapply (storeB_spec X t c 0 0 (Nat.zero_le _) (by rw [ht]; decide) arg1)
  isplitl [Hx]; · iexact Hx
  isplitl [H0]
  · unfold rowDone; iexists f0; isplitr
    · ipureintro; intro i _ _ h; rw [ht] at h; exact absurd h (Nat.not_lt_zero _)
    · iexact H0
  iintro ⟨Hx, Hrow⟩
  unfold wps; rw [wp_ret]
  imodintro
  iapply Hk
  isplitl [He Hrow H1]
  · isplitl [He]; · iexact He
    isplitl [Hrow]
    · iapply (Entails.of_eq (congrArg (fun n => rowDone X c 0 0 n) (show 1024 * t.val + 1024 = 1024 * 1 by omega))); iexact Hrow
    · iexact H1
  isplitl [Hx]; · iexact Hx
  iapply (Entails.of_eq (congrArg (owing c) (zero_add _))); iexact HO

/-- The second point: compute the second block. -/
theorem point1 (c : Dev nD) (t : Fin grid0.N) (ht : t.val = 1) (Q : PUnit → sProp 𝕄) :
    iprop(S1 X c 1 ∗ owns (c : Thread nD τ) arg1 fullShare (xblk X c t)
      ∗ ((S1 X c 2 ∗ owns (c : Thread nD τ) arg1 fullShare (xblk X c t)) -∗ Q ⟨⟩))
    ⊢ wps c (pointBody t arg1 arg2 c) Q := by
  unfold pointBody phase0 phase2 phase3
  rw [if_neg (fun h => by have := (cond1_at t).mp h; omega), if_neg (fun h => by have := (cond18_at t).mp h; omega),
    if_neg (fun h => by have := (cond35_at t).mp h; omega)]
  unfold S1
  iintro ⟨⟨He, Hrow, H1⟩, Hx, Hk⟩
  iapply (storeB_spec X t c 0 0 (Nat.zero_le _) (by rw [ht]; decide) arg1)
  isplitl [Hx]; · iexact Hx
  isplitl [Hrow]
  · iapply (Entails.of_eq (congrArg (fun n => rowDone X c 0 0 n) (show 1024 * 1 = 1024 * t.val by omega))); iexact Hrow
  iintro ⟨Hx, Hrow⟩
  unfold wps; rw [wp_ret]
  imodintro
  iapply Hk
  isplitl [He Hrow H1]
  · isplitl [He]; · iexact He
    isplitl [Hrow]
    · iapply (Entails.of_eq (congrArg (fun n => rowDone X c 0 0 n) (show 1024 * t.val + 1024 = 1024 * 2 by omega))); iexact Hrow
    · iexact H1
  iexact Hx

/-- Waiting at the barrier until the other 15 devices have told: their rows `c`, to copy into. -/
theorem barrier_spec (c : Dev nD) (K : KProg F PUnit) (Q : PUnit → sProp 𝕄) :
    iprop(knows X κ ∗ waitRes (barCell c) 15 ∗ owing c (dueRecv c 0 all16 + dueRecv c 1 all16)
      ∗ ((semVal (barCell c) 0 ∗ oth c (leave c 0) ∗ oth c (leave c 1) ∗ owing c (dueRecv c 0 all16 + dueRecv c 1 all16)) -∗ wps c K Q))
    ⊢ wps c (semWaitWord barS 15#32 >>= fun _ => K) Q := by
  have hpay : (oth c (barPay c) : sProp 𝕄) ⊢ iprop(oth c (leave c 0) ∗ oth c (leave c 1)) := by
    rw [← oth_sep]
    refine oth_mono c fun t => ?_
    unfold barPay rowAny leave
    iintro ⟨⟨H0, H1⟩, Hr0, Hr1⟩
    isplitl [H0 Hr0]; · isplitl [Hr0] <;> iassumption
    isplitl [Hr1] <;> iassumption
  unfold knows waitRes wps
  show _ ⊢ wp _ _ _ (Prog.op (TpuEff.semWait barS 15) fun _ => K) _
  iintro ⟨⟨#HP, #Hlev⟩, ⟨Hc, Hat⟩, ⟨%W, HO⟩, Hk⟩
  iapply (Rounds.wp_wait_rest_token 𝒱₀ ER (rd X) (c : Thread nD τ) none (κ := κ (barCell c))
      (wpE_semWait_eq 𝒱₀ (c : Thread nD τ) none Set.univ) (Set.mem_univ _) () (O := dueRecv c 0 all16 + dueRecv c 1 all16) (W := W) (R := 0) (m := 0) (T := ∅)
      ((Nat.zero_add 15).trans (expect_bar X c).symm)) $$ [Hc HO Hat]
  · isplitr; · iapply (records_inv X κ (bar_mem c)); iexact HP
    isplitl [Hc]; · iexact Hc
    isplitl [HO]; · iexact HO
    isplitr; · iapply (mayWait_bar c); iexact Hlev
    iexact Hat
  iintro ⟨HO, Hat, -, Hpay⟩
  ihave Hp := (Entails.of_eq (rest_bar X c)) $$ Hpay
  ihave Hp := hpay $$ Hp
  icases Hp with ⟨Hl0, Hl1⟩
  imod (close_cell X κ (barCell c) (bar_mem c)) $$ [Hat] with Hv
  · isplitr; · iexact HP
    iexact Hat
  iapply Hk
  isplitl [Hv]; · iexact Hv
  isplitl [Hl0]; · iexact Hl0
  isplitl [Hl1]; · iexact Hl1
  iexists _; iexact HO

/-- Copying wave `w` of the finished row to every other device. -/
theorem sends_spec (c : Dev nD) (w : Fin 2) (O : CellTallies nD τ sig Unit) (K : KProg F PUnit) (Q : PUnit → sProp 𝕄) :
    iprop(records X κ ∗ oth c (tok c w) ∗ oth c (leave c w) ∗ rowPts c c w fullShare (G X) ∗ owing c (dueRecv c w all16 + O)
      ∗ (((oth c fun t => cred (tallyAt (sendCell c t w) () (N w))) ∗ rowPts c c w (sh c) (G X) ∗ owing c O) -∗ wps c K Q))
    ⊢ wps c (over (sendB c w) all16 K) Q := by
  have hjoin : (iprop(oth c (tok c w) ∗ oth c (leave c w) ∗ oth c fun t => rowPts c c w (sh t) (G X)) : sProp 𝕄) ⊢ oth c (sendRes X c w) := by
    rw [← oth_sep, ← oth_sep]
    refine oth_mono c fun t => ?_
    unfold tok leave sendRes
    iintro ⟨⟨H1, H2, H3⟩, ⟨H4, H5⟩, H6⟩
    isplitl [H1]; · iexact H1
    isplitl [H2]; · iexact H2
    isplitl [H3]; · iexact H3
    isplitl [H4]; · iexact H4
    isplitl [H6] <;> iassumption
  iintro ⟨#HP, Ht, Hl, Hrow, HO, Hk⟩
  ihave Hrow := (Entails.of_eq (row_deal c c c w (G X))) $$ Hrow
  icases Hrow with ⟨Hown, Hrow⟩
  ihave HR := hjoin $$ [Ht Hl Hrow]
  · isplitl [Ht]; · iexact Ht
    isplitl [Hl] <;> iassumption
  iapply (over_spec c (sendB c w) (records X κ) (sendRes X c w) (fun t => cred (tallyAt (sendCell c t w) () (N w)))
    (fun l => owing c (dueRecv c w l + O))
    (by unfold sendB; exact if_neg (fun h => h rfl))
    (fun l => Entails.of_eq (by show owing c (dueRecv c w l + (if c = c then 0 else _) + _) = _; rw [if_pos rfl, add_zero]))
    (fun t l Q hct => sendB_spec X κ c w t l _ Q hct))
  isplitr; · iexact HP
  isplitl [HR]; · iexact HR
  isplitl [HO]; · iexact HO
  iintro ⟨Hc, HO⟩
  iapply Hk
  isplitl [Hc]; · iexact Hc
  isplitl [Hown]; · iexact Hown
  iapply (Entails.of_eq (congrArg (owing c) (zero_add _))); iexact HO

/-- A credit and a semaphore at the start of its round, per other device. -/
theorem oth_wait (c : Dev nD) (w : Fin 2) :
    (iprop((oth c fun t => cred (tallyAt (sendCell c t w) () (N w))) ∗ (oth c fun t => atPos ER (sendCell c t w) 0 ∅ 0)) : sProp 𝕄)
    ⊢ oth c fun t => waitRes (sendCell c t w) (N w) := by
  rw [← oth_sep]
  exact oth_mono c fun t => Entails.refl _

/-- The third point: compute the third block, wait for the others, copy wave 0 to them. -/
theorem point2 (c : Dev nD) (t : Fin grid0.N) (ht : t.val = 2) (Q : PUnit → sProp 𝕄) :
    iprop(knows X κ ∗ S1 X c 2 ∗ owns (c : Thread nD τ) arg1 fullShare (xblk X c t) ∗ owing c (dueRecv c 0 all16 + dueRecv c 1 all16)
      ∗ ((S3 X c ∗ owns (c : Thread nD τ) arg1 fullShare (xblk X c t) ∗ owing c (dueRecv c 1 all16)) -∗ Q ⟨⟩))
    ⊢ wps c (pointBody t arg1 arg2 c) Q := by
  unfold pointBody phase0 phase2 phase3
  rw [if_neg (fun h => by have := (cond1_at t).mp h; omega), if_pos ((cond18_at t).mpr ht), if_neg (fun h => by have := (cond35_at t).mp h; omega)]
  unfold S1 early
  iintro ⟨#HK, ⟨⟨Hbar, Ht0, Ht1, Ha0, Ha1, Hb⟩, Hrow, H1⟩, Hx, HO, Hk⟩
  iapply (storeB_spec X t c 0 0 (Nat.zero_le _) (by rw [ht]; decide) arg1)
  isplitl [Hx]; · iexact Hx
  isplitl [Hrow]
  · iapply (Entails.of_eq (congrArg (fun n => rowDone X c 0 0 n) (show 1024 * 2 = 1024 * t.val by omega))); iexact Hrow
  iintro ⟨Hx, Hrow⟩
  iapply (barrier_spec X κ c)
  isplitr; · iexact HK
  isplitl [Hbar]; · iexact Hbar
  isplitl [HO]; · iexact HO
  iintro ⟨Hbar, Hl0, Hl1, HO⟩
  iapply (sends_spec X κ c 0 (dueRecv c 1 all16))
  isplitr
  · unfold knows; icases HK with ⟨#HP, -⟩; iexact HP
  isplitl [Ht0]; · iexact Ht0
  isplitl [Hl0]; · iexact Hl0
  isplitl [Hrow]
  · iapply (row_done X c 0)
    iapply (Entails.of_eq (congrArg (fun n => rowDone X c 0 0 n) (show 1024 * t.val + 1024 = 0 + 3072 by omega))); iexact Hrow
  isplitl [HO]; · iexact HO
  iintro ⟨Hc, Hrow, HO⟩
  unfold wps; rw [wp_ret]
  imodintro
  iapply Hk
  isplitr [Hx HO]
  · unfold S3
    isplitl [Hbar]; · iexact Hbar
    isplitl [Ht1]; · iexact Ht1
    isplitl [Hl1]; · iexact Hl1
    isplitl [Hc Ha0]
    · iapply (oth_wait c 0); isplitl [Hc] <;> iassumption
    isplitl [Ha1]; · iexact Ha1
    isplitl [Hb]; · iexact Hb
    isplitl [Hrow] <;> iassumption
  isplitl [Hx] <;> iassumption

/-- Waiting for wave `w` of every other device's row. -/
theorem recvs_spec (c : Dev nD) (w : Fin 2) (K : KProg F PUnit) (Q : PUnit → sProp 𝕄) :
    iprop(records X κ ∗ (oth c fun s => waitRes (recvCell c s w) (N w)) ∗ owing c 0
      ∗ (((oth c fun s => semVal (recvCell c s w) 0) ∗ (oth c fun s => rowPts c s w fullShare (G X)) ∗ owing c 0) -∗ wps c K Q))
    ⊢ wps c (over (recvB c w) all16 K) Q := by
  iintro ⟨#HP, HR, HO, Hk⟩
  iapply (over_spec c (recvB c w) (records X κ) (fun s => waitRes (recvCell c s w) (N w)) (fun s => iprop(semVal (recvCell c s w) 0 ∗ recvPay X c s w))
    (fun _ => owing c 0)
    (by unfold recvB; exact if_neg (fun h => h rfl)) (fun l => Entails.refl _)
    (fun t l Q hct => recvB_spec X κ c w t Q hct))
  isplitr; · iexact HP
  isplitl [HR]; · iexact HR
  isplitl [HO]; · iexact HO
  iintro ⟨Hc, HO⟩
  ihave Hc := (Entails.of_eq (oth_sep c (fun s => semVal (recvCell c s w) 0) fun s => rowPts c s w fullShare (G X))) $$ Hc
  icases Hc with ⟨Hv, Hp⟩
  iapply Hk
  isplitl [Hv]; · iexact Hv
  isplitl [Hp] <;> iassumption

/-- Waiting until every copy has left. -/
theorem dones_spec (c : Dev nD) (K : KProg F PUnit) (Q : PUnit → sProp 𝕄) :
    iprop(records X κ ∗ (oth c fun t => waitRes (sendCell c t 0) (N 0)) ∗ (oth c fun t => waitRes (sendCell c t 1) (N 1)) ∗ owing c 0
      ∗ ((((oth c fun t => semVal (sendCell c t 0) 0) ∗ (oth c fun t => rowPts c c 0 (sh t) (G X)))
        ∗ ((oth c fun t => semVal (sendCell c t 1) 0) ∗ (oth c fun t => rowPts c c 1 (sh t) (G X))) ∗ owing c 0) -∗ wps c K Q))
    ⊢ wps c (over (doneB c) all16 K) Q := by
  iintro ⟨#HP, H0, H1, HO, Hk⟩
  iapply (over_spec c (doneB c) (records X κ) (fun t => iprop(waitRes (sendCell c t 0) (N 0) ∗ waitRes (sendCell c t 1) (N 1)))
    (fun t => iprop((semVal (sendCell c t 0) 0 ∗ sendPay X c t 0) ∗ (semVal (sendCell c t 1) 0 ∗ sendPay X c t 1)))
    (fun _ => owing c 0)
    (by unfold doneB; exact if_neg (fun h => h rfl)) (fun l => Entails.refl _)
    (fun t l Q hct => doneB_spec X κ c t Q hct))
  isplitr; · iexact HP
  isplitl [H0 H1]
  · iapply (Entails.of_eq (oth_sep c (fun t => waitRes (sendCell c t 0) (N 0)) fun t => waitRes (sendCell c t 1) (N 1)).symm)
    isplitl [H0] <;> iassumption
  isplitl [HO]; · iexact HO
  iintro ⟨Hc, HO⟩
  ihave Hc := (Entails.of_eq (oth_sep c (fun t => iprop(semVal (sendCell c t 0) 0 ∗ rowPts c c 0 (sh t) (G X))) fun t => iprop(semVal (sendCell c t 1) 0 ∗ rowPts c c 1 (sh t) (G X)))) $$ Hc
  icases Hc with ⟨H0, H1⟩
  ihave H0 := (Entails.of_eq (oth_sep c (fun t => semVal (sendCell c t 0) 0) fun t => rowPts c c 0 (sh t) (G X))) $$ H0
  ihave H1 := (Entails.of_eq (oth_sep c (fun t => semVal (sendCell c t 1) 0) fun t => rowPts c c 1 (sh t) (G X))) $$ H1
  iapply Hk
  isplitl [H0]; · iexact H0
  isplitl [H1] <;> iassumption

/-- A wave of all rows, put together from the others' rows and the pieces of the own. -/
theorem wave_whole (c : Dev nD) (w : Fin 2) (f : Comm F) :
    (iprop((oth c fun s => rowPts c s w fullShare f) ∗ rowPts c c w (sh c) f ∗ (oth c fun t => rowPts c c w (sh t) f)) : sProp 𝕄)
    ⊢ bigSep Finset.univ fun s : Dev nD => rowPts c s w fullShare f := by
  rw [bigSep_univ_at _ c, row_deal c c c w f]
  iintro ⟨H1, H2, H3⟩
  isplitr [H1]
  · isplitl [H2] <;> iassumption
  · iexact H1

/-- The last point: compute the last block, copy wave 1 to the others, wait for their rows and write the result. -/
theorem point3 (c : Dev nD) (t : Fin grid0.N) (ht : t.val = 3) (Q : PUnit → sProp 𝕄) :
    iprop(records X κ ∗ S3 X c ∗ owns (c : Thread nD τ) arg1 fullShare (xblk X c t) ∗ (∃ d, owns (c : Thread nD τ) arg2 fullShare d) ∗ owing c (dueRecv c 1 all16)
      ∗ ((S4 c ∗ owns (c : Thread nD τ) arg1 fullShare (xblk X c t) ∗ owns (c : Thread nD τ) arg2 fullShare (inv X) ∗ owing c 0) -∗ Q ⟨⟩))
    ⊢ wps c (pointBody t arg1 arg2 c) Q := by
  unfold pointBody phase0 phase2 phase3
  rw [if_neg (fun h => by have := (cond1_at t).mp h; omega), if_neg (fun h => by have := (cond18_at t).mp h; omega), if_pos ((cond35_at t).mpr ht)]
  unfold S3 base
  iintro ⟨#HP, ⟨Hbar, Ht1, Hl1, Hw0, Ha1, ⟨Hv0, Hv1, Hz⟩, Hrow0, ⟨%f, Hrow1⟩⟩, Hx, Hy, HO, Hk⟩
  iapply (storeB_spec X t c 1 3072 (by rw [ht]) (by rw [ht]) arg1)
  isplitl [Hx]; · iexact Hx
  isplitl [Hrow1]
  · unfold rowDone; iexists f; isplitr
    · ipureintro; intro i _ h h'; rw [ht] at h'; omega
    · iexact Hrow1
  iintro ⟨Hx, Hrow1⟩
  iapply (sends_spec X κ c 1 0)
  isplitr; · iexact HP
  isplitl [Ht1]; · iexact Ht1
  isplitl [Hl1]; · iexact Hl1
  isplitl [Hrow1]
  · iapply (row_done X c 1)
    iapply (Entails.of_eq (congrArg (fun n => rowDone X c 1 3072 n) (show 1024 * t.val + 1024 = 3072 + 1024 by omega))); iexact Hrow1
  isplitl [HO]
  · iapply (Entails.of_eq (congrArg (owing c) (add_zero _).symm)); iexact HO
  iintro ⟨Hc1, Hrow1, HO⟩
  ihave Hw1 := (oth_wait c 1) $$ [Hc1 Ha1]
  · isplitl [Hc1] <;> iassumption
  iapply (recvs_spec X κ c 0)
  isplitr; · iexact HP
  isplitl [Hv0]; · iexact Hv0
  isplitl [HO]; · iexact HO
  iintro ⟨Hv0, Hp0, HO⟩
  ihave Hr0 := (Entails.of_eq (wave_read c 0 (G X))) $$ [Hp0 Hrow0]
  · isplitl [Hp0] <;> iassumption
  icases Hr0 with ⟨Hr0, Hrest0⟩
  iapply (reading0_spec X c (sh c) arg2)
  isplitl [Hr0]; · iexact Hr0
  isplitl [Hy]; · iexact Hy
  iintro ⟨Hr0, Hy⟩
  iapply (recvs_spec X κ c 1)
  isplitr; · iexact HP
  isplitl [Hv1]; · iexact Hv1
  isplitl [HO]; · iexact HO
  iintro ⟨Hv1, Hp1, HO⟩
  ihave Hr1 := (Entails.of_eq (wave_read c 1 (G X))) $$ [Hp1 Hrow1]
  · isplitl [Hp1] <;> iassumption
  icases Hr1 with ⟨Hr1, Hrest1⟩
  iapply (reading1_spec X c (sh c) arg2)
  isplitl [Hr1]; · iexact Hr1
  isplitl [Hy]; · iexact Hy
  iintro ⟨Hr1, Hy⟩
  iapply (dones_spec X κ c)
  isplitr; · iexact HP
  isplitl [Hw0]; · iexact Hw0
  isplitl [Hw1]; · iexact Hw1
  isplitl [HO]; · iexact HO
  iintro ⟨⟨Hs0, Hq0⟩, ⟨Hs1, Hq1⟩, HO⟩
  ihave Hr0 := (Entails.of_eq (wave_read c 0 (G X)).symm) $$ [Hr0 Hrest0]
  · isplitl [Hr0] <;> iassumption
  icases Hr0 with ⟨Hp0, Hrow0⟩
  ihave Hr1 := (Entails.of_eq (wave_read c 1 (G X)).symm) $$ [Hr1 Hrest1]
  · isplitl [Hr1] <;> iassumption
  icases Hr1 with ⟨Hp1, Hrow1⟩
  unfold wps; rw [wp_ret]
  imodintro
  iapply Hk
  isplitr [Hx Hy HO]
  · unfold S4
    isplitl [Hbar]; · iexact Hbar
    isplitl [Hs0 Hs1 Hv0 Hv1 Hz]
    · iapply (Entails.of_eq (keys_split c fun k => (semVal ((c : Thread nD τ), osem k) 0 : sProp 𝕄)).symm)
      isplitr [Hz]
      · isplitl [Hs0]; · iexact Hs0
        isplitl [Hs1]; · iexact Hs1
        isplitl [Hv0]; · iexact Hv0
        iexact Hv1
      · unfold ownZ; iexact Hz
    · unfold commAny
      iexists (G X)
      iapply (Entails.of_eq (comm_waves c (G X)).symm)
      isplitl [Hp0 Hrow0 Hq0]
      · iapply (wave_whole c 0 (G X))
        isplitl [Hp0]; · iexact Hp0
        isplitl [Hrow0] <;> iassumption
      · iapply (wave_whole c 1 (G X))
        isplitl [Hp1]; · iexact Hp1
        isplitl [Hrow1] <;> iassumption
  isplitl [Hx]; · iexact Hx
  isplitl [Hy] <;> iassumption

end Cert.KernelIdeal.AllReduce

end
-- ==== Proof.Region.lean ====
/-
  The all-reduce as one region of the program: what the device holds between two of its grid points, and the body's
  obligation at each point.
-/
module

public import proofs.«01_k».proof.Proof.Body
public import proofs.«01_k».proof.Proof.Gen.KernelIdeal.Regions
public import Idealize.ShloMosaic.Lib.Pipeline.RegionTalk
public import Idealize.ShloMosaic.Lib.Pipeline.RegionArraysS

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Facts₀ Cert.KernelIdeal.Facts

variable {F : FTy → Type} [FloatOps F]

local notation "𝕄" => MT nD τ sig Unit (Elt F) ℕ UU ℕ

/-! ## What a device owes, as the pipeline records it -/

/-- Owing `O` is all the pipeline asks where it records no wait. -/
theorem owesAt_of {cfg : Pipeline.Cfg sig Λ₀} {c : Dev nD} (dat : Dat τ (Elt F) Unit ℕ UU ℕ cfg c) (t : Fin (cfg.N + 1))
    (O : CellTallies nD τ sig Unit) (hO : dat.owed t = O) (hr : dat.recorded t = Set.univ) :
    (owing c O : sProp 𝕄) ⊢ (dat.owesAt () t : sProp 𝕄) := by
  subst hO
  unfold Dat.owesAt Pipeline.owesWithin Dat.bound
  rw [hr]
  iintro ⟨%W, HO⟩
  iexists W
  isplitr
  · ipureintro; exact fun _ _ => Or.inl trivial
  · iexact HO
/-- And what it hands the body. -/
theorem of_owesAt {cfg : Pipeline.Cfg sig Λ₀} {c : Dev nD} (dat : Dat τ (Elt F) Unit ℕ UU ℕ cfg c) (t : Fin (cfg.N + 1))
    (O : CellTallies nD τ sig Unit) (hO : dat.owed t = O) : (dat.owesAt () t : sProp 𝕄) ⊢ owing c O := by
  subst hO
  unfold Dat.owesAt Pipeline.owesWithin
  iintro ⟨%W, -, HO⟩
  iexists W; iexact HO

variable (X : Dev nD → (main_arg0 : Ref sig .tc).ty.Contents (Elt F))

/-! ## Between the points -/

/-- What the device holds after `n` points of the grid. -/
def state (c : Dev nD) : ℕ → sProp 𝕄
  | 0 => S0 c
  | 1 => S1 X c 1
  | 2 => S1 X c 2
  | 3 => S3 X c
  | _ => S4 c
/-- What it owes then. -/
def dues (c : Dev nD) : ℕ → CellTallies nD τ sig Unit
  | 0 => O₀ c
  | 1 => dueRecv c 0 all16 + dueRecv c 1 all16
  | 2 => dueRecv c 0 all16 + dueRecv c 1 all16
  | 3 => dueRecv c 1 all16
  | _ => 0

/-- A buffer of the scaling kernel, at contents not chosen. -/
abbrev idleBuf (c : Dev nD) (b : Ref sig .tc) : sProp 𝕄 := iprop(∃ f : Buf (Elt F) ((c : Thread nD τ).loc b), ((c : Thread nD τ).loc b) ↦{fullShare} f)
/-- The buffers of the scaling kernel, which the all-reduce leaves alone, and the device's generator. -/
def aside (c : Dev nD) : sProp 𝕄 :=
  iprop((idleBuf c cc1_stg0_0 ∗ idleBuf c cc1_stg1_0 ∗ idleBuf c cc1_stg2_0 ∗ idleBuf c cc1_stg3_0) ∗ ∃ r, prngReg c r)

variable (V : Dev nD → Valuation τ sig (Elt F))

/-- Every device's shard of `x`, among its buffers' contents. -/
abbrev shards (c : Dev nD) : (main_arg0 : Ref sig .tc).ty.Contents (Elt F) := V c main_arg0

/-- The all-reduce's proof data: the shard comes in block by block, the reciprocal roots go out at the last point. -/
def dat0 (c : Dev nD) : Dat τ (Elt F) Unit ℕ UU ℕ cfg0 c where
  A := fun | 0 => V c main_arg0 | 1 => V c main_v2 | ⟨_ + 2, h⟩ => absurd h (Nat.not_lt.2 (Nat.le_add_left _ _))
  after := fun | 0, t => xblk (shards V) c t | 1, _ => inv (shards V) | ⟨_ + 2, h⟩, _ => absurd h (Nat.not_lt.2 (Nat.le_add_left _ _))
  Φ t := iprop((∃ κ, knows (shards V) κ) ∗ state (shards V) c t.val ∗ aside c)
  q _ := fullShare
  owed t := dues c t.val

/-- The block the pipeline puts in the staging buffer is the shard's. -/
theorem before0_0 (c : Dev nD) (t : Fin cfg0.N) (d) : (dat0 V c).before 0 t d = xblk (shards V) c t :=
  ((dat0 V c).before_fetched 0 t (Gen.fetch0_0 t) d).trans ((dat0 V c).cut_fetched 0 t d)

/-- The body on the staging buffers: who the device is, then its point. -/
theorem body0_eq (c : Dev nD) (t : Fin cfg0.N) (Q : PUnit → sProp 𝕄) :
    wps c (pointBody t (win0_0.stage (cfg0.slots t 0)) (win0_1.stage (cfg0.slots t 1)) c) Q
      ⊢ wps c (defs₀ .tc cfg0.body (cfg0.bodyArgs t (cfg0.slots t))) Q := by
  show _ ⊢ wps c (Gen.bodyAt0 t) Q
  unfold Gen.bodyAt0 wps
  rw [body_eq]
  simp only [Prog.lift, Prog.bind_op, Prog.bind_ret]
  rw [wp_deviceId]
  exact BI.Entails.refl _

/-- The points that leave the result's buffer alone: from one state to the next. -/
theorem point_on (κ : GSem nD τ sig → ℕ) (arg1 : Memref sig .tc .vmem S1024x1024 .f32) (arg2 : Memref sig .tc .vmem S4096x1 .f32)
    (c : Dev nD) (t : Fin grid0.N) (ht : t.val < 3) (Q : PUnit → sProp 𝕄) :
    iprop(knows X κ ∗ state X c t.val ∗ owns (c : Thread nD τ) arg1 fullShare (xblk X c t) ∗ owing c (dues c t.val)
      ∗ ((state X c (t.val + 1) ∗ owns (c : Thread nD τ) arg1 fullShare (xblk X c t) ∗ owing c (dues c (t.val + 1))) -∗ Q ⟨⟩))
    ⊢ wps c (pointBody t arg1 arg2 c) Q := by
  obtain h | h | h : t.val = 0 ∨ t.val = 1 ∨ t.val = 2 := by omega
  · rw [h]; exact point0 X κ arg1 arg2 c t h Q
  · rw [h]
    show iprop(knows X κ ∗ S1 X c 1 ∗ owns (c : Thread nD τ) arg1 fullShare (xblk X c t) ∗ owing c (dueRecv c 0 all16 + dueRecv c 1 all16)
      ∗ ((S1 X c 2 ∗ owns (c : Thread nD τ) arg1 fullShare (xblk X c t) ∗ owing c (dueRecv c 0 all16 + dueRecv c 1 all16)) -∗ Q ⟨⟩)) ⊢ _
    iintro ⟨-, HS, Hx, HO, Hk⟩
    iapply (point1 X arg1 arg2 c t h Q)
    isplitl [HS]; · iexact HS
    isplitl [Hx]; · iexact Hx
    iintro ⟨HS, Hx⟩
    iapply Hk
    isplitl [HS]; · iexact HS
    isplitl [Hx] <;> iassumption
  · rw [h]; exact point2 X κ arg1 arg2 c t h Q

/-- The result's buffer is stored into at the last point only. -/
theorem idle_on : ∀ t : Fin grid0.N, t.val < 3 → cfg0.idle 1 (grid0.coords t) = true := by decide +kernel
/-- At the last point the result's buffer is stored into. -/
theorem idle_off : ∀ t : Fin grid0.N, t.val = 3 → cfg0.idle 1 (grid0.coords t) = false := by decide +kernel

/-- The body's obligation, point by point. -/
theorem body0 (c : Dev nD) : BodyObligation (dat0 V c) defs₀ 𝒱₀ () Set.univ := fun t => by
  refine BI.Entails.trans ?_ (body0_eq c t _)
  rw [Gen.bigSep_W0, Gen.bigSep_W0]
  have ht : t.val < 4 := t.isLt
  obtain h | h : t.val < 3 ∨ t.val = 3 := by omega
  · have hf : (cfg0.win 1).flush t = false := by
      rw [Bool.eq_false_iff]; intro hf; have := (Gen.flush0_1 t).mp hf; omega
    rw [idle_on t h, hf]
    show iprop(((∃ κ, knows (shards V) κ) ∗ state (shards V) c t.val ∗ aside c) ∗ (dat0 V c).owesAt () t.castSucc
        ∗ (∃ d, owns (c : Thread nD τ) (win0_0.stage (cfg0.slots t 0)) fullShare ((dat0 V c).before 0 t d))
        ∗ (∃ d, owns (c : Thread nD τ) (win0_1.stage (cfg0.slots t 1)) fullShare ((dat0 V c).before 1 t d)))
      ⊢ wps c (pointBody t (win0_0.stage (cfg0.slots t 0)) (win0_1.stage (cfg0.slots t 1)) c) fun _ =>
        iprop(((∃ κ, knows (shards V) κ) ∗ state (shards V) c (t.val + 1) ∗ aside c) ∗ (dat0 V c).owesAt () t.succ
          ∗ owns (c : Thread nD τ) (win0_0.stage (cfg0.slots t 0)) fullShare (xblk (shards V) c t)
          ∗ (∃ d, owns (c : Thread nD τ) (win0_1.stage (cfg0.slots t 1)) fullShare ((dat0 V c).before 1 t d)))
    iintro ⟨⟨⟨%κ, #HK⟩, HS, Ha⟩, HO, ⟨%d, Hx⟩, Hy⟩
    rw [before0_0]
    iapply (point_on (shards V) κ _ _ c t h)
    isplitr; · iexact HK
    isplitl [HS]; · iexact HS
    isplitl [Hx]; · iexact Hx
    isplitl [HO]; · iapply (of_owesAt (dat0 V c) t.castSucc (dues c t.val) rfl) $$ HO
    iintro ⟨HS, Hx, HO⟩
    isplitl [HS Ha]
    · isplitr; · iexists κ; iexact HK
      isplitl [HS]; · iexact HS
      iexact Ha
    isplitl [HO]; · iapply (owesAt_of (dat0 V c) t.succ (dues c (t.val + 1)) rfl rfl) $$ HO
    isplitl [Hx]; · iexact Hx
    iexact Hy
  · rw [idle_off t h]
    show iprop(((∃ κ, knows (shards V) κ) ∗ state (shards V) c t.val ∗ aside c) ∗ (dat0 V c).owesAt () t.castSucc
        ∗ (∃ d, owns (c : Thread nD τ) (win0_0.stage (cfg0.slots t 0)) fullShare ((dat0 V c).before 0 t d))
        ∗ (∃ d, owns (c : Thread nD τ) (win0_1.stage (cfg0.slots t 1)) fullShare ((dat0 V c).before 1 t d)))
      ⊢ wps c (pointBody t (win0_0.stage (cfg0.slots t 0)) (win0_1.stage (cfg0.slots t 1)) c) fun _ =>
        iprop(((∃ κ, knows (shards V) κ) ∗ state (shards V) c (t.val + 1) ∗ aside c) ∗ (dat0 V c).owesAt () t.succ
          ∗ owns (c : Thread nD τ) (win0_0.stage (cfg0.slots t 0)) fullShare (xblk (shards V) c t)
          ∗ owns (c : Thread nD τ) (win0_1.stage (cfg0.slots t 1)) fullShare (inv (shards V)))
    have hO := of_owesAt (dat0 V c) t.castSucc (dueRecv c 1 all16) (by show dues c t.val = _; rw [h]; rfl)
    have hO' := owesAt_of (dat0 V c) t.succ 0 (by show dues c (t.val + 1) = _; rw [h]; rfl) rfl
    rw [h, show state (shards V) c 3 = S3 (shards V) c from rfl, show state (shards V) c (3 + 1) = S4 c from rfl]
    iintro ⟨⟨⟨%κ, #HK⟩, HS, Ha⟩, HO, ⟨%d, Hx⟩, ⟨%d', Hy⟩⟩
    rw [before0_0]
    iapply (point3 (shards V) κ _ _ c t h)
    isplitr
    · unfold knows; icases HK with ⟨HK, -⟩; iexact HK
    isplitl [HS]; · iexact HS
    isplitl [Hx]; · iexact Hx
    isplitl [Hy]; · iexists _; iexact Hy
    isplitl [HO]; · iapply hO $$ HO
    iintro ⟨HS, Hx, Hy, HO⟩
    isplitl [HS Ha]
    · isplitr; · iexists κ; iexact HK
      isplitl [HS]; · iexact HS
      iexact Ha
    isplitl [HO]; · iapply hO' $$ HO
    isplitl [Hx] <;> iassumption

end Cert.KernelIdeal.AllReduce

end
-- ==== Proof.Scale.lean ====
/-
  The scaling kernel: its one grid point multiplies the shard by the reciprocal roots and by the shard of `gamma`.
-/
module

public import proofs.«01_k».proof.Proof.Region
public import Idealize.ShloMosaic.Lib.Pipeline.ValueKit

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Facts₀ Cert.KernelIdeal.Facts

variable {F : FTy → Type} [FloatOps F]

local notation "𝕄" => MT nD τ sig Unit (Elt F) ℕ UU ℕ

variable (V : Dev nD → Valuation τ sig (Elt F))

/-- The device's part of the result. -/
def scaled (c : Dev nD) : Vec F S4096x1024 .f32 := Gen.k1_pay1 (V c main_arg0) (V c main_v2) (V c main_v1)

/-- The buffers of the all-reduce, which the scaling leaves alone, and the device's generator. -/
def aside1 (c : Dev nD) : sProp 𝕄 :=
  iprop((idleBuf c cc0_stg0_0 ∗ idleBuf c cc0_stg0_1 ∗ idleBuf c cc0_stg1_0 ∗ idleBuf c cc0_scratch0) ∗ ∃ r, prngReg c r)

/-- The scaling's proof data: three whole arrays come in, the result goes out. -/
def dat1 (c : Dev nD) : Dat τ (Elt F) Unit ℕ UU ℕ cfg1 c where
  A := fun | 0 => V c main_arg0 | 1 => V c main_v1 | 2 => V c main_v2 | 3 => V c main_v3 | ⟨_ + 4, h⟩ => absurd h (Nat.not_lt.2 (Nat.le_add_left _ _))
  after := fun
    | 0, _ => (V c main_arg0 : Vec F S4096x1024 .f32) | 1, _ => (V c main_v1 : Vec F S1x1024 .f32)
    | 2, _ => (V c main_v2 : Vec F S4096x1 .f32) | 3, _ => scaled V c
    | ⟨_ + 4, h⟩, _ => absurd h (Nat.not_lt.2 (Nat.le_add_left _ _))
  Φ _ := aside1 c
  q _ := fullShare
  owed _ := 0

/-- The pipeline puts the whole array in window 0's staging buffer. -/
theorem before1_0 (c : Dev nD) (t : Fin cfg1.N) (d) : (dat1 V c).before 0 t d = (V c main_arg0 : Vec F S4096x1024 .f32) :=
  (((dat1 V c).before_fetched 0 t (Gen.fetch1_0 t) d).trans ((dat1 V c).cut_fetched 0 t d)).trans
    (funext fun j => congrArg (V c main_arg0) (funext fun a => Fin.ext (by
      have h0 : win1_0.index t a * win1_0.size a = 0 := Nat.zero_mul _
      blk_simp
      rw [h0, Nat.zero_add])))

/-- The pipeline puts the whole array in window 1's staging buffer. -/
theorem before1_1 (c : Dev nD) (t : Fin cfg1.N) (d) : (dat1 V c).before 1 t d = (V c main_v1 : Vec F S1x1024 .f32) :=
  (((dat1 V c).before_fetched 1 t (Gen.fetch1_1 t) d).trans ((dat1 V c).cut_fetched 1 t d)).trans
    (funext fun j => congrArg (V c main_v1) (funext fun a => Fin.ext (by
      have h0 : win1_1.index t a * win1_1.size a = 0 := Nat.zero_mul _
      blk_simp
      rw [h0, Nat.zero_add])))

/-- The pipeline puts the whole array in window 2's staging buffer. -/
theorem before1_2 (c : Dev nD) (t : Fin cfg1.N) (d) : (dat1 V c).before 2 t d = (V c main_v2 : Vec F S4096x1 .f32) :=
  (((dat1 V c).before_fetched 2 t (Gen.fetch1_2 t) d).trans ((dat1 V c).cut_fetched 2 t d)).trans
    (funext fun j => congrArg (V c main_v2) (funext fun a => Fin.ext (by
      have h0 : win1_2.index t a * win1_2.size a = 0 := Nat.zero_mul _
      blk_simp
      rw [h0, Nat.zero_add])))

/-- The scaling's body on the staging buffers. -/
theorem scale_spec (a0 : Memref sig .tc .vmem S4096x1024 .f32) (h0 : a0.IsWhole) (a1 : Memref sig .tc .vmem S1x1024 .f32) (h1 : a1.IsWhole)
    (a2 : Memref sig .tc .vmem S4096x1 .f32) (h2 : a2.IsWhole) (a3 : Memref sig .tc .vmem S4096x1024 .f32) (h3 : a3.IsWhole) (c : Dev nD)
    (x y : Vec F S4096x1024 .f32) (g : Vec F S1x1024 .f32) (v : Vec F S4096x1 .f32) (Q : PUnit → sProp 𝕄) :
    iprop(owns (c : Thread nD τ) a0 fullShare x ∗ owns (c : Thread nD τ) a1 fullShare g ∗ owns (c : Thread nD τ) a2 fullShare v ∗ owns (c : Thread nD τ) a3 fullShare y
      ∗ ((owns (c : Thread nD τ) a0 fullShare x ∗ owns (c : Thread nD τ) a1 fullShare g ∗ owns (c : Thread nD τ) a2 fullShare v
        ∗ owns (c : Thread nD τ) a3 fullShare (Gen.k1_pay1 x v g)) -∗ Q ⟨⟩))
    ⊢ wps c (cc1_body a0 h0 a1 h1 a2 h2 a3 h3) Q := by
  rw [Gen.cc1_body_eq_skeleton]
  unfold owns Gen.cc1_body_skel wps
  simp only [Prog.lift, Prog.bind_op, Prog.bind_ret]
  iintro ⟨⟨%fx, %hx, Hx⟩, ⟨%fg, %hg, Hg⟩, ⟨%fv, %hv, Hv⟩, ⟨%fy, -, Hy⟩, Hk⟩
  iapply (wp_load_rect (m := a0) (r := Rect.unit (s := S4096x1024) ![0, 0] S4096x1024.size inb_S4096x1024_S4096x1024_0_0) (S := a0.view.set) 𝒱₀ (c : Thread nD τ) none Set.univ (slice_sub a0 _)) $$ Hx
  iintro Hx
  iapply (wp_load_rect (m := a2) (r := Rect.unit (s := S4096x1) ![0, 0] S4096x1.size inb_S4096x1_S4096x1_0_0) (S := a2.view.set) 𝒱₀ (c : Thread nD τ) none Set.univ (slice_sub a2 _)) $$ Hv
  iintro Hv
  iapply (wp_load_rect (m := a1) (r := Rect.unit (s := S1x1024) ![0, 0] S1x1024.size inb_S1x1024_S1x1024_0_0) (S := a1.view.set) 𝒱₀ (c : Thread nD τ) none Set.univ (slice_sub a1 _)) $$ Hg
  iintro Hg
  iapply (wp_load_rect (m := a3) (r := Rect.unit (s := S4096x1024) ![0, 0] S4096x1024.size inb_S4096x1024_S4096x1024_0_0) (S := a3.view.set) 𝒱₀ (c : Thread nD τ) none Set.univ (slice_sub a3 _)) $$ Hy
  iintro Hy
  iapply (wp_store (m := a3) (r := Rect.unit (s := S4096x1024) ![0, 0] S4096x1024.size inb_S4096x1024_S4096x1024_0_0) (S := a3.view.set) 𝒱₀ (c : Thread nD τ) none Set.univ ((View.setOn_subset_set _ _).trans (slice_sub a3 _))) $$ Hy
  iintro Hy
  have hz : ∀ a : Fin 2, (![0, 0] : Fin 2 → ℕ) a = 0 := by decide
  rw [readAt_all a0 _ hz inb_S4096x1024_S4096x1024_0_0 fx, readAt_all a2 _ hz inb_S4096x1_S4096x1_0_0 fv, readAt_all a1 _ hz inb_S1x1024_S1x1024_0_0 fg, hx, hv, hg]
  rw [show (Pure.pure PUnit.unit : KProg F PUnit) = Prog.ret ⟨⟩ from rfl, wp_ret]
  imodintro
  iapply Hk
  isplitl [Hx]
  · iexists fx; isplitr; · ipureintro; exact hx
    iexact Hx
  isplitl [Hg]
  · iexists fg; isplitr; · ipureintro; exact hg
    iexact Hg
  isplitl [Hv]
  · iexists fv; isplitr; · ipureintro; exact hv
    iexact Hv
  iexists ((a3.access (Rect.unit (s := S4096x1024) ![0, 0] S4096x1024.size inb_S4096x1024_S4096x1024_0_0)).write (Elt F) fy (Gen.k1_pay1 x v g) Finset.univ)
  isplitr
  · ipureintro
    rw [← readAt_all a3 _ hz inb_S4096x1024_S4096x1024_0_0]
    exact View.read_write_univ _ _
  · iexact Hy

/-- The body's obligation at the one point. -/
theorem body1 (c : Dev nD) : BodyObligation (dat1 V c) defs₀ 𝒱₀ () Set.univ := fun t => by
  rw [Gen.bigSep_W1, Gen.bigSep_W1]
  show iprop(aside1 c ∗ (dat1 V c).owesAt () t.castSucc
      ∗ (∃ d, owns (c : Thread nD τ) (win1_0.stage (cfg1.slots t 0)) fullShare ((dat1 V c).before 0 t d))
      ∗ (∃ d, owns (c : Thread nD τ) (win1_1.stage (cfg1.slots t 1)) fullShare ((dat1 V c).before 1 t d))
      ∗ (∃ d, owns (c : Thread nD τ) (win1_2.stage (cfg1.slots t 2)) fullShare ((dat1 V c).before 2 t d))
      ∗ (∃ d, owns (c : Thread nD τ) (win1_3.stage (cfg1.slots t 3)) fullShare ((dat1 V c).before 3 t d)))
    ⊢ wps c (Gen.bodyAt1 t) fun _ =>
      iprop(aside1 c ∗ (dat1 V c).owesAt () t.castSucc
      ∗ owns (c : Thread nD τ) (win1_0.stage (cfg1.slots t 0)) fullShare (V c main_arg0 : Vec F S4096x1024 .f32)
      ∗ owns (c : Thread nD τ) (win1_1.stage (cfg1.slots t 1)) fullShare (V c main_v1 : Vec F S1x1024 .f32)
      ∗ owns (c : Thread nD τ) (win1_2.stage (cfg1.slots t 2)) fullShare (V c main_v2 : Vec F S4096x1 .f32)
      ∗ owns (c : Thread nD τ) (win1_3.stage (cfg1.slots t 3)) fullShare (scaled V c))
  iintro ⟨Ha, HO, ⟨%d0, H0⟩, ⟨%d1, H1⟩, ⟨%d2, H2⟩, ⟨%d3, H3⟩⟩
  rw [before1_0, before1_1, before1_2]
  iapply (scale_spec _ _ _ _ _ _ _ _ c)
  isplitl [H0]; · iexact H0
  isplitl [H1]; · iexact H1
  isplitl [H2]; · iexact H2
  isplitl [H3]; · iexact H3
  iintro ⟨H0, H1, H2, H3⟩
  isplitl [Ha]; · iexact Ha
  isplitl [HO]; · iexact HO
  isplitl [H0]; · iexact H0
  isplitl [H1]; · iexact H1
  isplitl [H2]; · iexact H2
  unfold scaled
  iexact H3

end Cert.KernelIdeal.AllReduce

end
-- ==== Proof.Segments.lean ====
/-
  The two kernels as regions of the program: what each is entered from and left at.
-/
module

public import proofs.«01_k».proof.Proof.Scale

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)
open Cert.KernelIdeal Cert.KernelIdeal.Facts₀ Cert.KernelIdeal.Facts

variable {F : FTy → Type} [FloatOps F]

local notation "𝕄" => MT nD τ sig Unit (Elt F) ℕ UU ℕ

/-! ## Opening the semaphores -/

section Open

variable (X : Dev nD → (main_arg0 : Ref sig .tc).ty.Contents (Elt F))

/-- What device `c` is launched with, beside the records: its rights to open its own semaphores, its wait at the barrier, and toward
    every other device its tokens and the credit of the two rows that device sends. -/
def held0 (c : Dev nD) : sProp 𝕄 :=
  iprop((bigSep Finset.univ fun k => openTok ER ((c : Thread nD τ), osem k)) ∗ waitRes (barCell c) 15
    ∗ (oth c fun t => dutyTok ER (barCell t) 0 c)
    ∗ ((oth c fun t => dutyTok ER (sendCell c t 0) 0 t) ∗ (oth c fun t => dutyTok ER (sendCell c t 1) 0 t))
    ∗ ((oth c fun t => dutyTok ER (recvCell t c 0) 0 c) ∗ (oth c fun t => dutyTok ER (recvCell t c 1) 0 c))
    ∗ ((oth c fun s => cred (tallyAt (recvCell c s 0) () (N 0))) ∗ (oth c fun s => cred (tallyAt (recvCell c s 1) () (N 1)))))

/-- A semaphore once opened: its place at the start of its round, or, at the device's own index, still its counter. -/
def openedKey (c : Dev nD) (k : Bool × Dev nD × Fin 2) : sProp 𝕄 :=
  if k.2.1 = c then semVal ((c : Thread nD τ), osem k) 0
  else iprop(atPos ER ((c : Thread nD τ), osem k) 0 ∅ 0 ∗ reached ER ((c : Thread nD τ), osem k) 0)

/-- One of a device's own semaphores is opened. -/
theorem open_key (κ : GSem nD τ sig → ℕ) (c : Dev nD) (k : Bool × Dev nD × Fin 2) :
    iprop(records X κ ∗ (openTok ER ((c : Thread nD τ), osem k) ∗ semVal ((c : Thread nD τ), osem k) 0)) ⊢ (|={Set.univ}=> openedKey c k : sProp 𝕄) := by
  have hmem : (((c : Thread nD τ), osem k) : GSem nD τ sig) ∈ barCells ∪ scCells :=
    Finset.mem_union_right _ (Finset.mem_map_of_mem scEmb (Finset.mem_univ (c, k)))
  unfold openedKey
  iintro ⟨#HR, Ho, Hv⟩
  by_cases h : k.2.1 = c
  · rw [if_pos h]; imodintro; iexact Hv
  · rw [if_neg h]
    imod (Rounds.cell_open ER (rd X) (g := ((c : Thread nD τ), osem k)) (Set.mem_univ (κ ((c : Thread nD τ), osem k)))) $$ [Ho Hv] with H
    · isplitr; · iapply (records_inv X κ hmem); iexact HR
      isplitl [Ho] <;> iassumption
    imodintro; iexact H

/-- All of a device's own semaphores are opened. -/
theorem open_keys (κ : GSem nD τ sig → ℕ) (c : Dev nD) :
    iprop(records X κ ∗ ((bigSep Finset.univ fun k => openTok ER ((c : Thread nD τ), osem k)) ∗ (bigSep Finset.univ fun k => semVal ((c : Thread nD τ), osem k) 0)))
      ⊢ (|={Set.univ}=> bigSep Finset.univ (openedKey c) : sProp 𝕄) := by
  rw [← bigSep_sep']
  exact (bigSep_with_persistent (R := records X κ) fun k _ => open_key X κ c k).trans (bigSep_fupd _ _)

/-- The opened semaphores, by whose they are and which copy they count. -/
theorem opened_split (c : Dev nD) : bigSep Finset.univ (openedKey c)
    ⊢ (iprop(((oth c fun t => iprop(atPos ER (sendCell c t 0) 0 ∅ 0 ∗ reached ER (sendCell c t 0) 0))
        ∗ (oth c fun t => iprop(atPos ER (sendCell c t 1) 0 ∅ 0 ∗ reached ER (sendCell c t 1) 0))
        ∗ (oth c fun t => iprop(atPos ER (recvCell c t 0) 0 ∅ 0 ∗ reached ER (recvCell c t 0) 0))
        ∗ (oth c fun t => iprop(atPos ER (recvCell c t 1) 0 ∅ 0 ∗ reached ER (recvCell c t 1) 0))) ∗ ownZ c) : sProp 𝕄) := by
  have hoth : ∀ (b : Bool) (w : Fin 2), (oth c fun t => openedKey c (b, t, w))
      ⊢ (oth c fun t => iprop(atPos ER ((c : Thread nD τ), osem (b, t, w)) 0 ∅ 0 ∗ reached ER ((c : Thread nD τ), osem (b, t, w)) 0) : sProp 𝕄) := fun b w =>
    bigSep_mono fun t ht => by unfold openedKey; rw [if_neg (Finset.ne_of_mem_erase ht)]; exact BI.Entails.refl _
  have hown : ∀ (b : Bool) (w : Fin 2), openedKey c (b, c, w) = (semVal ((c : Thread nD τ), osem (b, c, w)) 0 : sProp 𝕄) := fun b w => by
    unfold openedKey; exact if_pos rfl
  rw [keys_split c, hown, hown, hown, hown]
  iintro ⟨⟨H1, H2, H3, H4⟩, Hz⟩
  isplitr [Hz]
  · isplitl [H1]; · iapply (hoth true 0) $$ H1
    isplitl [H2]; · iapply (hoth true 1) $$ H2
    isplitl [H3]; · iapply (hoth false 0) $$ H3
    iapply (hoth false 1) $$ H4
  · unfold ownZ; iexact Hz

/-- What a device holds entering the all-reduce. -/
theorem opened_early (c : Dev nD) :
    iprop(waitRes (barCell c) 15
    ∗ (oth c fun t => dutyTok ER (barCell t) 0 c)
    ∗ ((oth c fun t => dutyTok ER (sendCell c t 0) 0 t) ∗ (oth c fun t => dutyTok ER (sendCell c t 1) 0 t))
    ∗ ((oth c fun t => dutyTok ER (recvCell t c 0) 0 c) ∗ (oth c fun t => dutyTok ER (recvCell t c 1) 0 c))
    ∗ ((oth c fun s => cred (tallyAt (recvCell c s 0) () (N 0))) ∗ (oth c fun s => cred (tallyAt (recvCell c s 1) () (N 1))))
    ∗ bigSep Finset.univ (openedKey c)) ⊢ (iprop(oth c (sigRes c) ∗ early c) : sProp 𝕄) := by
  iintro ⟨Hb, Hd, ⟨Hs0, Hs1⟩, ⟨Hr0, Hr1⟩, ⟨Hc0, Hc1⟩, Ho⟩
  ihave Ho := (opened_split (F := F) c) $$ Ho
  rw [oth_sep, oth_sep, oth_sep, oth_sep]
  icases Ho with ⟨⟨⟨Has0, Hrs0⟩, ⟨Has1, Hrs1⟩, ⟨Har0, Hrr0⟩, ⟨Har1, Hrr1⟩⟩, Hz⟩
  unfold sigRes early base tok waitRes
  rw [oth_sep, oth_sep, oth_sep, oth_sep, oth_sep, oth_sep, oth_sep, oth_sep]
  isplitl [Hd Hrr0 Hrr1]
  · isplitl [Hd]; · iexact Hd
    isplitl [Hrr0] <;> iassumption
  isplitl [Hb]; · iexact Hb
  isplitl [Hs0 Hrs0 Hr0]
  · isplitl [Hs0]; · iexact Hs0
    isplitl [Hrs0] <;> iassumption
  isplitl [Hs1 Hrs1 Hr1]
  · isplitl [Hs1]; · iexact Hs1
    isplitl [Hrs1] <;> iassumption
  isplitl [Has0]; · iexact Has0
  isplitl [Has1]; · iexact Has1
  isplitl [Hc0 Har0]
  · isplitl [Hc0] <;> iassumption
  isplitl [Hc1 Har1]
  · isplitl [Hc1] <;> iassumption
  iexact Hz

/-- What rides to the all-reduce, and what it makes of it once its semaphores are open. -/
def Tk (c : Dev nD) : sProp 𝕄 := iprop((∃ κ, records X κ) ∗ held0 c)
/-- What a device holds once its semaphores are open: what all know, what its signals take, and what it keeps up to the barrier. -/
def Xk (c : Dev nD) : sProp 𝕄 := iprop((∃ κ, knows X κ) ∗ oth c (sigRes c) ∗ early c)

/-- Opening the own semaphores turns the one into the other. -/
theorem hopen (c : Dev nD) : iprop(Tk X c ∗ Pipeline.ownSems0 osem c ∗ levAts L lv) ⊢ (|={Set.univ}=> Xk X c : sProp 𝕄) := by
  unfold Tk Xk held0 Pipeline.ownSems0
  iintro ⟨⟨⟨%κ, #HR⟩, Ho, Hrest⟩, Hv, #Hlev⟩
  imod (open_keys X κ c) $$ [Ho Hv] with Hk
  · isplitr; · iexact HR
    isplitl [Ho] <;> iassumption
  imodintro
  isplitr
  · iexists κ; unfold knows
    isplitr; · iexact HR
    iexact Hlev
  iapply (opened_early (F := F) c)
  icases Hrest with ⟨H1, H2, H3, H4, H5⟩
  isplitl [H1]; · iexact H1
  isplitl [H2]; · iexact H2
  isplitl [H3]; · iexact H3
  isplitl [H4]; · iexact H4
  isplitl [H5]; · iexact H5
  iexact Hk

end Open

/-! ## The regions -/

variable (m : (ℓ : Loc nD τ sig) → Buf (Elt F) ℓ)

/-- The buffers' contents entering the all-reduce, entering the scaling, and at the end. -/
abbrev V1 : Dev nD → Valuation τ sig (Elt F) := Gen.V1 m
/-- The buffers' contents after the all-reduce. -/
def V2 (c : Dev nD) : Valuation τ sig (Elt F) := Pipeline.afterRegion (dat0 (V1 m) c) (V1 m c)
/-- The buffers' contents after the scaling. -/
def V3 (c : Dev nD) : Valuation τ sig (Elt F) := Pipeline.afterRegion (dat1 (V2 m) c) (V2 m c)

/-- Both regions' proof data. -/
def pdats : (p : Fin 2) → (c : Dev nD) → Dat τ (Elt F) Unit ℕ UU ℕ (cfgs p) c
  | 0 => dat0 (V1 m)
  | 1 => dat1 (V2 m)

/-- What a device still owes after `n` points lies above level 0. -/
theorem owed_above (c : Dev nD) (n : ℕ) (g : GSem nD τ sig) (i : Unit) (h : 0 < dues c n g i) : i ∈ L g ∧ (0 : ℕ) < lv g i := by
  have hr : ∀ t w, g = recvCell t c w → i ∈ L g ∧ (0 : ℕ) < lv g i := fun t w hg => by
    subst hg
    exact ⟨by rw [L_tc]; exact Finset.mem_singleton_self _, by rw [lv_recv]; decide⟩
  match n, h with
  | 0, h => exact O₀_above h
  | 1, h => obtain ⟨t, w, hg⟩ := recvs_pos h; exact hr t w hg
  | 2, h => obtain ⟨t, w, hg⟩ := recvs_pos h; exact hr t w hg
  | 3, h => obtain ⟨t, hg⟩ := dueRecv_pos h; exact hr t 1 hg
  | _ + 4, h => exact absurd h (Nat.lt_irrefl 0)

/-- What a device enters the all-reduce with is the state before its first point. -/
theorem hin0 (c : Dev nD) : iprop(Pipeline.scopedRest spec0 c ∗ (∃ r, prngReg c r) ∗ StableHlo.held (c.tc : Thread nD τ) ∅ (V1 m c) ∗ Xk (shards (V1 m)) c)
    ⊢ ((dat0 (V1 m) c).Φ 0 : sProp 𝕄) := by
  show _ ⊢ iprop((∃ κ, knows (shards (V1 m)) κ) ∗ S0 c ∗ aside c)
  rw [Gen.scopedRest0_eq]
  unfold Xk S0 aside commAny
  iintro ⟨⟨Hc, Hst⟩, Hp, -, HK, Hs, He⟩
  isplitl [HK]; · iexact HK
  isplitl [Hs He Hc]
  · isplitl [Hs]; · iexact Hs
    isplitl [He] <;> iassumption
  isplitl [Hst] <;> iassumption

/-- The state after the all-reduce's last point gives every semaphore back at zero. -/
theorem hout0 (c : Dev nD) : ((dat0 (V1 m) c).Φ (Fin.last cfg0.N) : sProp 𝕄)
    ⊢ iprop(Pipeline.scopedRest spec0 c ∗ (∃ r, prngReg c r) ∗ StableHlo.held (c.tc : Thread nD τ) ∅ (V2 m c) ∗ Pipeline.ownSems0 osem c ∗ semVal (barCell c) 0) := by
  show iprop((∃ κ, knows (shards (V1 m)) κ) ∗ S4 c ∗ aside c) ⊢ _
  rw [Gen.scopedRest0_eq]
  unfold S4 aside commAny StableHlo.held Pipeline.ownSems0
  rw [BI.bigSep_empty]
  iintro ⟨-, ⟨Hb, Hv, Hc⟩, Hst, Hp⟩
  isplitl [Hc Hst]
  · isplitl [Hc] <;> iassumption
  isplitl [Hp]; · iexact Hp
  isplitr; · iempintro
  isplitl [Hv] <;> iassumption

/-- What a device enters the scaling with is the state before its first point. -/
theorem hin1 (c : Dev nD) : iprop(Pipeline.scopedRest spec1 c ∗ ∃ r, prngReg c r) ⊢ ((dat1 (V2 m) c).Φ 0 : sProp 𝕄) := by
  show _ ⊢ aside1 c
  rw [Gen.scopedRest1_eq]
  exact BI.Entails.refl _
/-- The state after the scaling's last point is what it leaves with. -/
theorem hout1 (c : Dev nD) : ((dat1 (V2 m) c).Φ (Fin.last cfg1.N) : sProp 𝕄) ⊢ iprop(Pipeline.scopedRest spec1 c ∗ ∃ r, prngReg c r) := by
  show aside1 c ⊢ _
  rw [Gen.scopedRest1_eq]
  exact BI.Entails.refl _

/-- The staging semaphores stand at level 0. -/
theorem stage0_low (c : Dev nD) (w : Fin 2) (s : Fin (win0 w).nbuf) : lv ((c : Thread nD τ), .dma ((win0 w).sem s)) () ≤ 0 :=
  (by decide +kernel : ∀ (w : Fin 2) (s : Fin (win0 w).nbuf), lv (((0 : Dev nD) : Thread nD τ), .dma ((win0 w).sem s)) () ≤ 0) w s
/-- The scaling's staging semaphores stand at level 0. -/
theorem stage1_low (c : Dev nD) (w : Fin 4) (s : Fin (win1 w).nbuf) : lv ((c : Thread nD τ), .dma ((win1 w).sem s)) () ≤ 0 :=
  (by decide +kernel : ∀ (w : Fin 4) (s : Fin (win1 w).nbuf), lv (((0 : Dev nD) : Thread nD τ), .dma ((win1 w).sem s)) () ≤ 0) w s

set_option backward.isDefEq.respectTransparency.types false in
/-- The all-reduce's region. -/
def reg0 : Pipeline.RegionSeg (pcfgs (F := F)) Gen.adm (pdats m) () defs₀ 𝒱₀ L lv 0 :=
  Pipeline.RegionSeg.ofTalk (pcfgs (F := F)) Gen.adm (pdats m) () defs₀ 𝒱₀ L lv 0 osem (by decide +kernel : Pipeline.OwnSemFacts spec0 osem)
    ∅ (Pipeline.ucRefs τ sig \ Pipeline.arrRefs spec0) (Finset.empty_subset _) Gen.launch0.toP rfl (fun c => (body0 (V1 m) c).loose)
    (fun _ => 0) O₀ (fun c => (zero_add _).symm) (fun c => rfl) (fun _ => rfl)
    (fun c w => match w with | 0 => rfl | 1 => rfl)
    (V1 m) (V2 m) (fun c b hb => Pipeline.afterRegion_off (dat0 (V1 m) c) (V1 m c) (Pipeline.ucRefs τ sig) b (Finset.mem_sdiff.mp hb).1)
    (Tk (shards (V1 m))) (fun c => semVal (barCell c) 0) (Xk (shards (V1 m))) (fun c => semVal (barCell c) 0) (hopen (shards (V1 m))) (hin0 m) (hout0 m)
    (fun c => by iintro H; imodintro; iexact H)
    (fun _ => 0)
    ⟨fun c w s => by rw [L_tc]; exact Finset.mem_singleton_self _, stage0_low, fun c t g i h => owed_above c t.val g i h⟩
    (fun _ => iprop(emp))
    (fun c w => match w with | 0 => rfl | 1 => rfl) (fun c w => (Pipeline.afterRegion_arr (dat0 (V1 m) c) (V1 m c) Gen.winFacts0.arr_inj w).symm)

/-- What rides beside the buffers: before the all-reduce, and after it. -/
def rest0 (c : Dev nD) : sProp 𝕄 := iprop(Tk (shards (V1 m)) c ∗ (∃ r, prngReg c r) ∗ owing c (O₀ c))
/-- What rides beside the buffers after the all-reduce: the barrier's counter at zero, and no debt. -/
def rest1 (c : Dev nD) : sProp 𝕄 := iprop(semVal (barCell c) 0 ∗ (∃ r, prngReg c r) ∗ owing c 0)

/-- The all-reduce's arrays are buffers of the main program. -/
theorem arrs_sub0 : Pipeline.arrRefs (τ := τ) spec0 ⊆ Pipeline.ucRefs τ sig := by decide +kernel
/-- The scaling's arrays are buffers of the main program. -/
theorem arrs_sub1 : Pipeline.arrRefs (τ := τ) spec1 ⊆ Pipeline.ucRefs τ sig := by decide +kernel

/-- The buffers and what rides along meet the all-reduce's precondition. -/
theorem reg0_pre (c : Dev nD) : iprop(StableHlo.held (c : Thread nD τ) (Pipeline.ucRefs τ sig) (V1 m c) ∗ rest0 m c) ⊢ (reg0 m).pre c := by
  show _ ⊢ iprop(StableHlo.held (c.tc : Thread nD τ) (Pipeline.arrRefs (τ := τ) spec0) (V1 m c) ∗ (∃ r, prngReg c r)
    ∗ (StableHlo.held (c.tc : Thread nD τ) (Pipeline.ucRefs τ sig \ Pipeline.arrRefs spec0) (V1 m c) ∗ emp) ∗ Tk (shards (V1 m)) c
    ∗ ∃ Wd, owes (c : Thread nD τ) (0 + O₀ c) Wd)
  rw [StableHlo.held_sub_split (c.tc : Thread nD τ) arrs_sub0 (V1 m c), zero_add]
  unfold rest0
  iintro ⟨⟨Ha, Hu⟩, HT, Hp, HO⟩
  isplitl [Ha]; · iexact Ha
  isplitl [Hp]; · iexact Hp
  isplitl [Hu]
  · isplitl [Hu]; · iexact Hu
    iempintro
  isplitl [HT]; · iexact HT
  iexact HO

/-- The all-reduce's postcondition gives the buffers at their new contents, and what rides along. -/
theorem reg0_post (c : Dev nD) : (reg0 m).post c ⊢ iprop(StableHlo.held (c : Thread nD τ) (Pipeline.ucRefs τ sig) (V2 m c) ∗ rest1 c) := by
  show iprop(StableHlo.held (c.tc : Thread nD τ) (Pipeline.arrRefs (τ := τ) spec0) (V2 m c) ∗ (∃ r, prngReg c r)
    ∗ (StableHlo.held (c.tc : Thread nD τ) (Pipeline.ucRefs τ sig \ Pipeline.arrRefs spec0) (V2 m c) ∗ emp) ∗ semVal (barCell c) 0
    ∗ ∃ Wd, owes (c : Thread nD τ) (0 : CellTallies nD τ sig Unit) Wd) ⊢ _
  rw [StableHlo.held_sub_split (c.tc : Thread nD τ) arrs_sub0 (V2 m c)]
  unfold rest1
  iintro ⟨Ha, Hp, ⟨Hu, -⟩, Hb, HO⟩
  isplitl [Ha Hu]
  · isplitl [Ha] <;> iassumption
  isplitl [Hb]; · iexact Hb
  isplitl [Hp]; · iexact Hp
  iexact HO

/-- The scaling's region. -/
def reg1 : Pipeline.RegionSeg (pcfgs (F := F)) Gen.adm (pdats m) () defs₀ 𝒱₀ L lv 1 :=
  Pipeline.RegionSeg.ofHeldIn (pcfgs (F := F)) Gen.adm (pdats m) () defs₀ 𝒱₀ L lv 1 (fun _ => 0) (Pipeline.ucRefs τ sig)
    (fun c => iprop(∃ r, prngReg c r)) (fun c => iprop(∃ r, prngReg c r)) Gen.launch1.toP rfl (fun c => (body1 (V2 m) c).loose)
    (fun _ _ => rfl) (fun _ => rfl)
    (fun c w => match w with | 0 => rfl | 1 => rfl | 2 => rfl | 3 => rfl)
    (fun c => hin1 m c) (fun c => hout1 m c)
    (fun _ => 0) ⟨fun c w s => by rw [L_tc]; exact Finset.mem_singleton_self _, stage1_low, fun c g i h => absurd h (Nat.lt_irrefl 0)⟩
    (fun c => semVal (barCell c) 0) (V2 m) (fun c w => match w with | 0 => rfl | 1 => rfl | 2 => rfl | 3 => rfl)

/-- The buffers and what rides along meet the scaling's precondition. -/
theorem reg1_pre (c : Dev nD) : iprop(StableHlo.held (c : Thread nD τ) (Pipeline.ucRefs τ sig) (V2 m c) ∗ rest1 c) ⊢ (reg1 m).pre c := by
  refine BI.Entails.trans ?_ (Pipeline.RegionSeg.ofHeldIn_pre (S := Pipeline.ucRefs τ sig) arrs_sub1 c)
  unfold rest1
  show (_ : sProp 𝕄) ⊢ _
  iintro ⟨Hh, Hb, Hp, HO⟩
  isplitl [Hh]; · iexact Hh
  isplitl [HO]; · iexact HO
  isplitl [Hp] <;> iassumption

/-- The scaling's postcondition gives the buffers at their new contents, and what rides along. -/
theorem reg1_post (c : Dev nD) : (reg1 m).post c ⊢ iprop(StableHlo.held (c : Thread nD τ) (Pipeline.ucRefs τ sig) (V3 m c) ∗ rest1 c) := by
  refine BI.Entails.trans (Pipeline.RegionSeg.ofHeldIn_post (S := Pipeline.ucRefs τ sig) arrs_sub1 c) ?_
  show iprop(StableHlo.held (c : Thread nD τ) (Pipeline.ucRefs τ sig) (V3 m c) ∗ owing c 0 ∗ (∃ r, prngReg c r) ∗ semVal (barCell c) 0) ⊢ _
  unfold rest1
  iintro ⟨Hh, HO, Hp, Hb⟩
  isplitl [Hh]; · iexact Hh
  isplitl [Hb]; · iexact Hb
  isplitl [Hp] <;> iassumption

/-! ## The buffers at the end -/

/-- The reciprocal roots, after the all-reduce. -/
theorem V2_v2 (c : Dev nD) : V2 m c main_v2 = inv (shards (V1 m)) := by
  unfold V2
  refine (Pipeline.afterRegion_arr (dat0 (V1 m) c) (V1 m c) Gen.winFacts0.arr_inj 1).trans ?_
  refine (dat0 (V1 m) c).arrAt_eq_of_after_last 1 Gen.t0_3 (by decide +kernel) _ fun j => ?_
  rfl

/-- The all-reduce changes the reciprocal roots' buffer only. -/
theorem V2_keeps (c : Dev nD) (r : Ref sig .tc) (h : r ≠ main_v2) : V2 m c r = V1 m c r := by
  unfold V2
  refine Pipeline.afterRegion_keeps (dat0 (V1 m) c) (V1 m c) Gen.winFacts0.arr_inj (fun w => match w with | 0 => rfl | 1 => rfl) r ?_
  exact fun w hw => match w with | 0 => rfl | 1 => absurd hw.symm h

/-- The result, after the scaling. -/
theorem V3_v3 (c : Dev nD) : V3 m c main_v3 = scaled (V2 m) c := by
  unfold V3
  refine (Pipeline.afterRegion_arr (dat1 (V2 m) c) (V2 m c) Gen.winFacts1.arr_inj 3).trans ?_
  refine (dat1 (V2 m) c).arrAt_eq_of_after_last 3 Gen.t1_0 (by decide +kernel) _ fun j => ?_
  rfl

/-- The scaling changes the result's buffer only. -/
theorem V3_keeps (c : Dev nD) (r : Ref sig .tc) (h : r ≠ main_v3) : V3 m c r = V2 m c r := by
  unfold V3
  refine Pipeline.afterRegion_keeps (dat1 (V2 m) c) (V2 m c) Gen.winFacts1.arr_inj (fun w => match w with | 0 => rfl | 1 => rfl | 2 => rfl | 3 => rfl) r ?_
  exact fun w hw => match w with | 0 => rfl | 1 => rfl | 2 => rfl | 3 => absurd hw.symm h

end Cert.KernelIdeal.AllReduce

end
-- ==== Proof.Launch.lean ====
/-
  The launch: every semaphore's invariant, every token and every credit dealt to the devices; then the whole run.
-/
module

public import proofs.«01_k».proof.Proof.Segments
public import Idealize.ShloMosaic.Harness.Basic

@[expose] public section

noncomputable section

namespace Cert.KernelIdeal.AllReduce

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Smoke (bigSep_pair bigSep_unpair)
open Cert.KernelIdeal Cert.KernelIdeal.Facts₀ Cert.KernelIdeal.Facts

variable {F : FTy → Type} [FloatOps F]

local notation "𝕄" => MT nD τ sig Unit (Elt F) ℕ UU ℕ

/-! ## The credit -/

/-- The list of all devices has each of them once. -/
theorem count16 : ∀ c : Dev nD, all16.count c = 1 := by decide +kernel

/-- What `d` owes `c`'s barrier: one unit for each time that `c` is in the list, and nothing if they are the same. -/
theorem dueBar_bar (d c : Dev nD) (l : List (Dev nD)) : dueBar d l (barCell c) () = if d = c then 0 else l.count c := by
  induction l with
  | nil => show 0 = _; split <;> rfl
  | cons t l ih =>
    unfold dueBar
    rw [Pi.add_apply, Finsupp.add_apply, ih, List.count_cons]
    by_cases ht : t = c
    · subst ht
      by_cases hd : d = t
      · rw [if_pos hd, if_pos hd, if_pos hd]; rfl
      · rw [if_neg hd, if_neg hd, if_neg hd, if_pos (beq_self_eq_true t), tallyAt_apply, if_pos ⟨rfl, rfl⟩]
    · rw [if_neg (fun h => ht (beq_iff_eq.mp h)), Nat.add_zero,
        show (if d = t then (0 : CellTallies nD τ sig Unit) else tallyAt (barCell t) () 1) (barCell c) () = 0 from ?_, Nat.add_zero]
      split
      · rfl
      · rw [tallyAt_apply, if_neg (fun h => ht (congrArg (fun g : GSem nD τ sig => g.1.1) h.1).symm)]
/-- The signals owe nothing to a receive semaphore. -/
theorem dueBar_recv (d c s : Dev nD) (w : Fin 2) (l : List (Dev nD)) : dueBar d l (recvCell c s w) () = 0 := by
  by_contra h
  obtain ⟨t, ht⟩ := dueBar_pos (Nat.pos_of_ne_zero h)
  exact absurd (congrArg Prod.snd ht) (osem_ne_bar (false, s, w))
/-- The copies owe nothing to a barrier semaphore. -/
theorem dueRecv_bar (d c : Dev nD) (w : Fin 2) (l : List (Dev nD)) : dueRecv d w l (barCell c) () = 0 := by
  by_contra h
  obtain ⟨t, ht⟩ := dueRecv_pos (Nat.pos_of_ne_zero h)
  exact absurd (congrArg Prod.snd ht).symm (osem_ne_bar (false, d, w))
/-- What `d`'s copies of wave `w` owe `c`'s receive semaphore `(s, w')`: a copy's units where it is theirs, else nothing. -/
theorem dueRecv_recv (d c s : Dev nD) (w w' : Fin 2) (l : List (Dev nD)) :
    dueRecv d w l (recvCell c s w') () = if d = s ∧ w = w' ∧ d ≠ c then l.count c * N w else 0 := by
  induction l with
  | nil => show 0 = _; split <;> simp
  | cons t l ih =>
    unfold dueRecv
    rw [Pi.add_apply, Finsupp.add_apply, ih, List.count_cons]
    by_cases ht : t = c
    · subst ht
      by_cases hd : d = t
      · rw [if_pos hd, if_neg (fun h => h.2.2 hd), if_neg (fun h => h.2.2 hd)]; rfl
      · rw [if_neg hd, if_pos (beq_self_eq_true t), tallyAt_apply]
        by_cases h : d = s ∧ w = w'
        · obtain ⟨rfl, rfl⟩ := h
          rw [if_pos ⟨rfl, rfl, hd⟩, if_pos ⟨rfl, rfl⟩, if_pos ⟨rfl, rfl, hd⟩, Nat.succ_mul]
        · rw [if_neg (fun h' => h ⟨h'.1, h'.2.1⟩), if_neg ?_, if_neg (fun h' => h ⟨h'.1, h'.2.1⟩)]
          intro h'
          refine h ?_
          have hk := osem_inj (show osem (false, s, w') = osem (false, d, w) from congrArg Prod.snd h'.1)
          injection hk with _ hk
          injection hk with h1 h2
          exact ⟨h1.symm, h2.symm⟩
    · rw [if_neg (fun h => ht (beq_iff_eq.mp h)), Nat.add_zero,
        show (if d = t then (0 : CellTallies nD τ sig Unit) else tallyAt (recvCell t d w) () (N w)) (recvCell c s w') () = 0 from ?_, Nat.add_zero]
      split
      · rfl
      · rw [tallyAt_apply, if_neg (fun h => ht (congrArg (fun g : GSem nD τ sig => g.1.1) h.1).symm)]

/-- What the devices owe a barrier: one signal each, but for its own device. -/
theorem sum_bar (c : Dev nD) : ∑ d : Dev nD, O₀ d (barCell c) () = 15 := by
  have h : ∀ d : Dev nD, O₀ d (barCell c) () = if d = c then 0 else 1 := fun d => by
    unfold O₀
    rw [Pi.add_apply, Finsupp.add_apply, Pi.add_apply, Finsupp.add_apply, dueBar_bar, dueRecv_bar, dueRecv_bar, count16]; rfl
  rw [Finset.sum_congr rfl fun d _ => h d]
  clear h
  revert c; decide +kernel

/-- What they owe a receive semaphore: one copy, from the one device it is for. -/
theorem sum_recv (c s : Dev nD) (w : Fin 2) (hs : s ≠ c) : ∑ d : Dev nD, O₀ d (recvCell c s w) () = N w := by
  have h : ∀ d : Dev nD, O₀ d (recvCell c s w) () = if d = s then N w else 0 := fun d => by
    unfold O₀
    rw [Pi.add_apply, Finsupp.add_apply, Pi.add_apply, Finsupp.add_apply, dueBar_recv, dueRecv_recv, dueRecv_recv, count16, Nat.one_mul, Nat.one_mul]
    by_cases hd : d = s
    · subst hd
      match w with
      | 0 => rw [if_pos ⟨rfl, rfl, hs⟩, if_neg (fun h => absurd h.2.1 (by decide)), if_pos rfl, Nat.zero_add, Nat.add_zero]
      | 1 => rw [if_neg (fun h => absurd h.2.1 (by decide)), if_pos ⟨rfl, rfl, hs⟩, if_pos rfl, Nat.zero_add, Nat.zero_add]
    · rw [if_neg (fun h => hd h.1), if_neg (fun h => hd h.1), if_neg hd]; rfl
  rw [Finset.sum_congr rfl fun d _ => h d, Finset.sum_ite_eq' Finset.univ s fun _ => N w, if_pos (Finset.mem_univ _)]

/-- A semaphore's launch credit is what all devices together owe it. -/
theorem credit_of {g : GSem nD τ sig} {n : ℕ} (h : ∑ d : Dev nD, O₀ d g () = n) :
    tallyOn g (launchCredit (Pipeline.owing O₀) 0 g) = (tallyAt g () n : CellTallies nD τ sig Unit) := by
  unfold tallyAt
  refine congrArg _ (Finsupp.ext fun u => ?_)
  cases u
  rw [Pipeline.launchCredit_owing, Finsupp.single_eq_same, h]

/-- A device's own scoped semaphores, as an embedding. -/
def osemEmb : Bool × Dev nD × Fin 2 ↪ SemLoc sig := ⟨osem, osem_inj⟩

/-- A device's launch credit holds what it waits for. -/
theorem credits (c : Dev nD) : (Pipeline.launchCred O₀ c : sProp 𝕄)
    ⊢ iprop(cred (tallyAt (barCell c) () 15) ∗ ((oth c fun s => cred (tallyAt (recvCell c s 0) () (N 0))) ∗ (oth c fun s => cred (tallyAt (recvCell c s 1) () (N 1))))) := by
  unfold Pipeline.launchCred
  rw [bigSep_univ_at _ (SemLoc.reg barS), credit_of (sum_bar c)]
  have hsub : (Finset.univ.map osemEmb : Finset (SemLoc sig)) ⊆ Finset.univ.erase (SemLoc.reg barS) := fun sm h => by
    obtain ⟨k, -, rfl⟩ := Finset.mem_map.mp h
    exact Finset.mem_erase.mpr ⟨osem_ne_bar k, Finset.mem_univ _⟩
  have hsplit : bigSep (Finset.univ.erase (SemLoc.reg barS)) (fun sm : SemLoc sig => (cred (tallyOn ((c : Thread nD τ), sm) (launchCredit (Pipeline.owing O₀) 0 ((c : Thread nD τ), sm))) : sProp 𝕄))
      = iprop((bigSep Finset.univ fun k => cred (tallyOn ((c : Thread nD τ), osem k) (launchCredit (Pipeline.owing O₀) 0 ((c : Thread nD τ), osem k))))
        ∗ bigSep (Finset.univ.erase (SemLoc.reg barS) \ Finset.univ.map osemEmb) fun sm : SemLoc sig => cred (tallyOn ((c : Thread nD τ), sm) (launchCredit (Pipeline.owing O₀) 0 ((c : Thread nD τ), sm)))) := by
    rw [bigSep_sdiff_split hsub, bigSep_map]; rfl
  have hk := keys_split c fun k => (cred (tallyOn ((c : Thread nD τ), osem k) (launchCredit (Pipeline.owing O₀) 0 ((c : Thread nD τ), osem k))) : sProp 𝕄)
  have hw : ∀ w : Fin 2, (oth c fun s => cred (tallyOn ((c : Thread nD τ), osem (false, s, w)) (launchCredit (Pipeline.owing O₀) 0 ((c : Thread nD τ), osem (false, s, w)))))
      ⊢ (oth c fun s => cred (tallyAt (recvCell c s w) () (N w)) : sProp 𝕄) := fun w =>
    bigSep_mono fun s hs => Entails.of_eq (congrArg cred (credit_of (sum_recv c s w (Finset.ne_of_mem_erase hs))))
  iintro ⟨Hb, H⟩
  ihave H := (Entails.of_eq hsplit) $$ H
  icases H with ⟨H, -⟩
  ihave H := (Entails.of_eq hk) $$ H
  icases H with ⟨⟨-, -, H0, H1⟩, -⟩
  isplitl [Hb]; · iexact Hb
  isplitl [H0]
  · iapply (hw 0) $$ H0
  · iapply (hw 1) $$ H1

/-! ## The tokens -/

/-- The token device `c` holds toward `t`: of its signal at `t`'s barrier, of its own send semaphores, of `t`'s receive semaphores. -/
def tokAt (c t : Dev nD) : Option (Bool × Fin 2) → GSem nD τ sig × ℕ × Fin 16
  | none => (barCell t, 0, c)
  | some (true, w) => (sendCell c t w, 0, t)
  | some (false, w) => (recvCell t c w, 0, c)

/-- No two of the tokens are the same. -/
theorem tokAt_inj : Function.Injective fun x : Dev nD × Dev nD × Option (Bool × Fin 2) => tokAt x.1 x.2.1 x.2.2 := by
  have hb : ∀ (c t : Dev nD) (k : Bool × Fin 2), (tokAt c t (some k)).1.2 ≠ SemLoc.reg barS := fun c t k => by
    obtain ⟨b, w⟩ := k
    cases b
    · exact osem_ne_bar (false, c, w)
    · exact osem_ne_bar (true, t, w)
  have hd : ∀ x : GSem nD τ sig × ℕ × Fin 16, ∀ y, x = y → x.1.1.1 = y.1.1.1 ∧ x.1.2 = y.1.2 ∧ x.2.2 = y.2.2 := fun x y h => by subst h; exact ⟨rfl, rfl, rfl⟩
  rintro ⟨c, t, k⟩ ⟨c', t', k'⟩ h
  obtain ⟨h1, h2, h3⟩ := hd _ _ h
  match k, k' with
  | none, none => obtain rfl : t = t' := h1; obtain rfl : c = c' := h3; rfl
  | none, some k' => exact absurd h2.symm (hb c' t' k')
  | some k, none => exact absurd h2 (hb c t k)
  | some (true, w), some (true, w') =>
    have := osem_inj (show osem (true, t, w) = osem (true, t', w') from h2)
    injection this with _ this; injection this with e1 e2
    obtain rfl : c = c' := h1
    rw [e1, e2]
  | some (false, w), some (false, w') =>
    have := osem_inj (show osem (false, c, w) = osem (false, c', w') from h2)
    injection this with _ this; injection this with e1 e2
    obtain rfl : t = t' := h1
    rw [e1, e2]
  | some (true, w), some (false, w') =>
    exact absurd (osem_inj (show osem (true, t, w) = osem (false, c', w') from h2)) (by simp)
  | some (false, w), some (true, w') =>
    exact absurd (osem_inj (show osem (false, c, w) = osem (true, t', w') from h2)) (by simp)

/-- Every token. -/
def allToks : Finset (GSem nD τ sig × ℕ × Fin 16) := Finset.univ.map ⟨_, tokAt_inj⟩

/-- What a device's tokens come to. -/
def toks (c : Dev nD) : sProp 𝕄 :=
  iprop((oth c fun t => dutyTok ER (barCell t) 0 c)
    ∗ ((oth c fun t => dutyTok ER (sendCell c t 0) 0 t) ∗ (oth c fun t => dutyTok ER (sendCell c t 1) 0 t))
    ∗ ((oth c fun t => dutyTok ER (recvCell t c 0) 0 c) ∗ (oth c fun t => dutyTok ER (recvCell t c 1) 0 c)))

/-- All the tokens together are every device's tokens. -/
theorem toks_deal : bigSep allToks (fun x => (dutyTok ER x.1 x.2.1 x.2.2 : sProp 𝕄)) ⊢ bigSep Finset.univ fun c : Dev nD => (toks c : sProp 𝕄) := by
  unfold allToks
  rw [bigSep_map, bigSep_univ_prod]
  refine bigSep_mono fun c _ => ?_
  rw [bigSep_univ_prod, bigSep_univ_at _ c]
  have h5 : ∀ t : Dev nD, (bigSep Finset.univ fun k : Option (Bool × Fin 2) => (dutyTok ER (tokAt c t k).1 (tokAt c t k).2.1 (tokAt c t k).2.2 : sProp 𝕄))
      = iprop(dutyTok ER (barCell t) 0 c ∗ dutyTok ER (sendCell c t 0) 0 t ∗ dutyTok ER (sendCell c t 1) 0 t ∗ dutyTok ER (recvCell t c 0) 0 c ∗ dutyTok ER (recvCell t c 1) 0 c) := fun t =>
    bigSep_univ_eq_bigSepL [none, some (true, 0), some (true, 1), some (false, 0), some (false, 1)] (by decide) (by decide) _
  have ho : (oth c fun t => bigSep Finset.univ fun k : Option (Bool × Fin 2) => (dutyTok ER (tokAt c t k).1 (tokAt c t k).2.1 (tokAt c t k).2.2 : sProp 𝕄)) ⊢ toks c := by
    unfold toks oth
    rw [bigSep_congr fun t _ => h5 t]
    rw [bigSep_sep', bigSep_sep', bigSep_sep', bigSep_sep']
    iintro ⟨H1, H2, H3, H4, H5⟩
    isplitl [H1]; · iexact H1
    isplitl [H2 H3]
    · isplitl [H2] <;> iassumption
    isplitl [H4] <;> iassumption
  refine BI.Entails.trans ?_ ho
  show (_ : sProp 𝕄) ⊢ _
  iintro ⟨-, H⟩
  iexact H

/-! ## The launch -/

/-- No barrier semaphore is a scoped one. -/
theorem disjoint_cells : Disjoint (barCells : Finset (GSem nD τ sig)) scCells := by
  rw [Finset.disjoint_left]
  intro g h1 h2
  obtain ⟨c, -, rfl⟩ := Finset.mem_map.mp h1
  obtain ⟨ck, -, h⟩ := Finset.mem_map.mp h2
  exact osem_ne_bar ck.2 (congrArg Prod.snd h)

/-- The ghost state at launch: the pipelines', and the protocol's. -/
def u₀ : UU :=
  (initOf (Pipeline.cells cfgs Gen.cellOf_inj) (Pipeline.launchToks cfgs Gen.cellOf_inj), launchOf barCells scCells allToks)

/-- The protocol's is handed to the first device until all are dealt with at once. -/
def ghost (c : Dev nD) : sProp 𝕄 := if c = 0 then BI.own (ER (launchOf barCells scCells allToks)) else iprop(emp)

/-- All devices' parts of the protocol's ghost state are the whole of it. -/
theorem ghost_all : bigSep Finset.univ ghost = (BI.own (ER (launchOf barCells scCells allToks)) : sProp 𝕄) := by
  rw [bigSep_univ_at _ (0 : Dev nD), bigSep_congr (s := Finset.univ.erase (0 : Dev nD)) (Ψ := fun _ => (BI.emp : sProp 𝕄))
    fun c hc => by unfold ghost; rw [if_neg (Finset.ne_of_mem_erase hc)]; rfl, BI.bigSep_emp_const]
  unfold ghost; rw [if_pos rfl]
  exact BI.equiv_iff.mp sep_emp

/-- The one semaphore outside of every scope is the barrier's. -/
theorem unscoped_bar (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]

variable (m : (ℓ : Loc nD τ sig) → Buf (Elt F) ℓ) (ρ : Dev nD → PrngReg)

/-- What a device is launched with, beside the records. -/
def dealt (c : Dev nD) : sProp 𝕄 :=
  iprop((atPos ER (barCell c) 0 ∅ 0 ∗ (bigSep Finset.univ fun k => openTok ER ((c : Thread nD τ), osem k)) ∗ toks c)
    ∗ (cred (tallyAt (barCell c) () 15) ∗ ((oth c fun s => cred (tallyAt (recvCell c s 0) () (N 0))) ∗ (oth c fun s => cred (tallyAt (recvCell c s 1) () (N 1))))
    ∗ owes (c : Thread nD τ) (O₀ c) ∅ ∗ ∃ r, prngReg c r))

/-- What a device is dealt, with the records, is what rides along into the all-reduce. -/
theorem rest0_of (X : Dev nD → (main_arg0 : Ref sig .tc).ty.Contents (Elt F)) (hX : shards (V1 m) = X) (κ : GSem nD τ sig → ℕ) (c : Dev nD) :
    iprop(records X κ ∗ dealt c) ⊢ (rest0 m c : sProp 𝕄) := by
  unfold dealt rest0 Tk held0 toks waitRes
  rw [hX]
  iintro ⟨#HR, ⟨Ha, Ho, Hd, Hs, Hr⟩, Hb, Hc, HO, Hp⟩
  isplitr [HO Hp]
  · isplitr; · iexists κ; iexact HR
    isplitl [Ho]; · iexact Ho
    isplitl [Hb Ha]
    · isplitl [Hb] <;> iassumption
    isplitl [Hd]; · iexact Hd
    isplitl [Hs]; · iexact Hs
    isplitl [Hr]; · iexact Hr
    iexact Hc
  isplitl [Hp]; · iexact Hp
  iexists ∅; iexact HO

/-- Every device's share of the launch, dealt at once. -/
theorem deal : iprop((bigSep Finset.univ fun c : Dev nD => iprop(unscopedSems0 c ∗ owes (c : Thread nD τ) (O₀ c) ∅ ∗ Pipeline.launchCred O₀ c ∗ prngReg c (ρ c) ∗ ghost c)) ∗ levAts L lv)
    ⊢ (|={Set.univ}=> bigSep Finset.univ (rest0 m) : sProp 𝕄) := by
  have hcore (c : Dev nD) : iprop(unscopedSems0 c ∗ owes (c : Thread nD τ) (O₀ c) ∅ ∗ Pipeline.launchCred O₀ c ∗ prngReg c (ρ c) ∗ ghost c)
      ⊢ (iprop((cred (tallyAt (barCell c) () 15) ∗ ((oth c fun s => cred (tallyAt (recvCell c s 0) () (N 0))) ∗ (oth c fun s => cred (tallyAt (recvCell c s 1) () (N 1))))
        ∗ owes (c : Thread nD τ) (O₀ c) ∅ ∗ ∃ r, prngReg c r) ∗ (semVal (barCell c) 0 ∗ ghost c)) : sProp 𝕄) := by
    rw [unscoped_bar]
    iintro ⟨Hv, HO, Hc, Hp, HG⟩
    ihave Hc := (credits (F := F) c) $$ Hc
    icases Hc with ⟨Hb, Hc⟩
    isplitl [Hb Hc HO Hp]
    · isplitl [Hb]; · iexact Hb
      isplitl [Hc]; · iexact Hc
      isplitl [HO]; · iexact HO
      iexists (ρ c); iexact Hp
    isplitl [Hv] <;> iassumption
  have hall : (bigSep Finset.univ fun c : Dev nD => iprop(unscopedSems0 c ∗ owes (c : Thread nD τ) (O₀ c) ∅ ∗ Pipeline.launchCred O₀ c ∗ prngReg c (ρ c) ∗ ghost c)) ⊢ (_ : sProp 𝕄) :=
    bigSep_mono fun c _ => hcore c
  have hg : bigSep Finset.univ ghost ⊢ (BI.own (ER (launchOf barCells scCells allToks)) : sProp 𝕄) := Entails.of_eq ghost_all
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have ha : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have ho : bigSep scCells (fun g => (openTok ER g : sProp 𝕄)) ⊢ bigSep Finset.univ (fun c : Dev nD => bigSep Finset.univ fun k => openTok ER ((c : Thread nD τ), osem k)) :=
    Entails.of_eq (by rw [bigSep_map, bigSep_univ_prod]; rfl)
  iintro ⟨H, -⟩
  ihave H := hall $$ H
  ihave H := bigSep_unpair $$ H
  icases H with ⟨HB, H⟩
  ihave H := bigSep_unpair $$ H
  icases H with ⟨Hv, HG⟩
  ihave HG := hg $$ HG
  imod (Rounds.fund_launch ER (rd (shards (V1 m))) disjoint_cells (fun g _ h => h) allToks) $$ [Hv HG] with ⟨%κ, -, #Hinv, #Hr, Hat, Hopen, Htok⟩
  · isplitl [Hv]
    · iapply hv $$ Hv
    · iexact HG
  imodintro
  iapply (bigSep_with_persistent (R := records (shards (V1 m)) κ) (Φ := dealt) fun c _ => rest0_of m _ rfl κ c)
  isplitr
  · unfold records
    isplitr; · iexact Hinv
    iexact Hr
  unfold dealt
  iapply bigSep_pair
  isplitr [HB]
  · iapply bigSep_pair
    isplitl [Hat]; · iapply ha $$ Hat
    iapply bigSep_pair
    isplitl [Hopen]; · iapply ho $$ Hopen
    iapply (toks_deal (F := F)) $$ Htok
  · iexact HB

/-! ## The run -/

/-- What rides along with the buffers before the all-reduce, before the scaling, and at the end. -/
def rests : Fin 3 → Dev nD → sProp 𝕄
  | 0 => rest0 m
  | _ => rest1

/-- A semaphore outside of every scope is the barrier's. -/
theorem unscoped_only : ∀ sm : SemLoc sig, sm.isScoped .tc = false → sm = .reg barS := by decide +kernel

/-- From the launch's state every device gets its buffers and what rides along into the all-reduce. -/
theorem init : iprop((bigSep Finset.univ fun c : Dev nD => iprop(unscopedBufs c (fun b => m ((c.tc : Thread nD τ).loc b)) ∗ unscopedSems0 c
      ∗ owes (c.tc : Thread nD τ) (O₀ c) ∅ ∗ Pipeline.launchCred O₀ c ∗ prngReg c (ρ c) ∗ ghost c)) ∗ levAts L lv)
    ⊢ (|={Set.univ}=> bigSep Finset.univ fun c : Dev nD => iprop(StableHlo.held (c : Thread nD τ) (Pipeline.ucRefs τ sig) (Gen.V0 m c) ∗ rest0 m c) : sProp 𝕄) := by
  have hb (c : Dev nD) : unscopedBufs c (fun b => m ((c.tc : Thread nD τ).loc b)) ⊢ (StableHlo.held (c : Thread nD τ) (Pipeline.ucRefs τ sig) (Gen.V0 m c) : sProp 𝕄) :=
    Entails.of_eq (Pipeline.unscopedBufs_held (Ix := Unit) (Name := ℕ) (U := UU) (Lvl := ℕ) c (Gen.V0 m c))
  have hbs : bigSep Finset.univ (fun c : Dev nD => unscopedBufs c (fun b => m ((c.tc : Thread nD τ).loc b)))
      ⊢ (bigSep Finset.univ fun c : Dev nD => StableHlo.held (c : Thread nD τ) (Pipeline.ucRefs τ sig) (Gen.V0 m c) : sProp 𝕄) := bigSep_mono fun c _ => hb c
  iintro ⟨H, Hl⟩
  ihave H := bigSep_unpair $$ H
  icases H with ⟨Hb, H⟩
  imod (deal m ρ) $$ [H Hl] with HR
  · isplitl [H]; · iexact H
    iexact Hl
  imodintro
  iapply bigSep_pair
  isplitl [Hb]; · iapply hbs $$ Hb
  iexact HR

/-- The shards the all-reduce sees are those the launch found. -/
theorem shards_eq : shards (V1 m) = fun c : Dev nD => m ((c.tc : Thread nD τ).loc main_arg0) :=
  funext fun c => Gen.V1_of m c main_arg0 (by decide)

/-- The result on device `c`. -/
def result (c : Dev nD) : (main_v3 : Ref sig .tc).ty.Contents (Elt F) :=
  Gen.k1_pay1 (m ((c.tc : Thread nD τ).loc main_arg0)) (inv fun d : Dev nD => m ((d.tc : Thread nD τ).loc main_arg0)) (V1 m c main_v1)

/-- At the end the result's buffer holds the result. -/
theorem V3_result (c : Dev nD) : V3 m c main_v3 = result m c := by
  rw [V3_v3]
  unfold scaled result
  rw [V2_v2, V2_keeps m c main_arg0 (by decide), V2_keeps m c main_v1 (by decide), shards_eq]
  rw [show V1 m c main_arg0 = m ((c.tc : Thread nD τ).loc main_arg0) from Gen.V1_of m c main_arg0 (by decide)]

/-- At the end every buffer that nothing writes is as it was at the launch. -/
theorem V3_input (c : Dev nD) (r : Ref sig .tc) (h3 : r ≠ main_v3) (h2 : r ≠ main_v2) (h1 : r ∉ Gen.hostOps0_W) :
    V3 m c r = m ((c.tc : Thread nD τ).loc r) := by
  rw [V3_keeps m c r h3, V2_keeps m c r h2]
  exact Gen.V1_of m c r h1

set_option backward.isDefEq.respectTransparency.types false in
/-- Every weakly fair execution of the program on the sixteen devices terminates with the arguments unchanged, the result of every
    device its shard scaled by the reciprocal roots of all the shards, and every semaphore at zero. -/
theorem run_main : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_v3) = result m c) ∧ r.2.sem = fun _ => 0) :=
  Pipeline.θ_run_regions_kit_dev_sems (pcfgs (F := F)) Gen.adm (pdats m) () Gen.cellOf_inj EP defs₀ 𝒱₀ L lv m ρ main
    (Gen.segs m 𝒱₀ L lv (rests m) () (pdats m) (reg0 m) (reg1 m))
    (fun c Q => by
      rewrite [Gen.main_chain c, Pipeline.Seg.run_eq_chain,
        show (Gen.segs m 𝒱₀ L lv (rests m) () (pdats m) (reg0 m) (reg1 m) c).map Pipeline.Seg.prog = [
          StableHlo.seq Gen.hostOps0, Prog.lift (.customCall (Pipeline.entry 0) ()), Prog.lift (.customCall (Pipeline.entry 1) ())] from rfl]
      dsimp (config := { failIfUnchanged := false }) only
      exact .rfl)
    (fun c => by simp only [Gen.segs, Pipeline.Seg.pipes_host, Pipeline.Seg.pipes_region, Pipeline.Seg.pipes_nil]; decide)
    O₀ L_of_ne ghost u₀
    (hu₀ := by
      unfold u₀
      iintro Hu
      ihave H := (ownU_pair _ _) $$ Hu
      icases H with ⟨HP, HX⟩
      imodintro
      isplitl [HP]; · iexact HP
      rw [ghost_all]; iexact HX)
    (T₀ := fun c => iprop(StableHlo.held (c : Thread nD τ) (Pipeline.ucRefs τ sig) (Gen.V0 m c) ∗ rest0 m c))
    (Tₙ := fun c => iprop(StableHlo.held (c : Thread nD τ) (Pipeline.ucRefs τ sig) (V3 m c) ∗ semVal (barCell c) 0))
    (hch := fun c => by
      refine ⟨.rfl, reg0_pre m c, (reg0_post m c).trans (reg1_pre m c), (reg1_post m c).trans ?_⟩
      unfold rest1
      show (_ : sProp 𝕄) ⊢ _
      iintro ⟨Hh, Hb, -, HO⟩
      isplitr [HO]
      · isplitl [Hh] <;> iassumption
      · iexact HO)
    (hinit := init m ρ)
    (QY := fun c s => (s.mem ((c.tc : Thread nD τ).loc main_arg0) = V3 m c main_arg0 ∧ s.mem ((c.tc : Thread nD τ).loc main_arg1) = V3 m c main_arg1
      ∧ s.mem ((c.tc : Thread nD τ).loc main_v3) = V3 m c main_v3) ∧ s.sem (barCell c) = 0)
    (hfin := fun c s' => by
      unfold StableHlo.held
      show (_ : sProp 𝕄) ⊢ _
      iintro ⟨⟨Hh, Hb⟩, HSI⟩
      icombine HSI Hb gives %hb
      ihave Hr := (pointsTo_read_all (Pipeline.ucRefs τ sig) (fun b => ((c : Thread nD τ).1, b)) (V3 m c) s') $$ [Hh HSI]
      · isplitl [Hh] <;> iassumption
      icases Hr with ⟨%h, HSI⟩
      imodintro
      isplitr
      · ipureintro
        exact ⟨⟨h (Proc.devRef .tc main_arg0) (Finset.mem_filter.mpr ⟨StableHlo.devRef_mem_tcRefs main_arg0, by decide⟩),
          h (Proc.devRef .tc main_arg1) (Finset.mem_filter.mpr ⟨StableHlo.devRef_mem_tcRefs main_arg1, by decide⟩),
          h (Proc.devRef .tc main_v3) (Finset.mem_filter.mpr ⟨StableHlo.devRef_mem_tcRefs main_v3, by decide⟩)⟩, by simpa using hb⟩
      · iexact HSI)
    (hQ := fun s h hs => ⟨fun c => by
        obtain ⟨⟨h0, h1, h3⟩, -⟩ := h c
        exact ⟨h0.trans (V3_input m c main_arg0 (by decide) (by decide) (by decide)),
          h1.trans (V3_input m c main_arg1 (by decide) (by decide) (by decide)), h3.trans (V3_result m c)⟩,
      sem_eq_zero hs fun c sm hsm => by
        obtain rfl := unscoped_only sm hsm
        exact (h c).2⟩)

/-- Every weakly fair execution terminates with the arguments unchanged and every semaphore at zero. -/
theorem run_frame : θ_run defs (onTc (τ := τ) (main (F := F))) ⟨m, fun _ => 0, ρ⟩ (fun r => (∀ c : Dev nD,
    r.2.mem ((c.tc : Thread nD τ).loc main_arg0) = m ((c.tc : Thread nD τ).loc main_arg0)
    ∧ r.2.mem ((c.tc : Thread nD τ).loc main_arg1) = m ((c.tc : Thread nD τ).loc main_arg1)) ∧ r.2.sem = fun _ => 0) :=
  (θ_run defs _ _).mono (fun _ h => ⟨fun c => ⟨(h.1 c).1, (h.1 c).2.1⟩, h.2⟩) (run_main m ρ)

end Cert.KernelIdeal.AllReduce

end
-- ==== Proof.Value.lean ====
/-
  The result of the sixteen devices against the normalization of the whole array.
-/
module

public import proofs.«01_k».proof.Proof.Launch
public import proofs.«01_k».proof.Proof.Gen.ReferenceIdeal.Run
public import Idealize.ShloMosaic.Lib.Pointwise
public import Idealize.ShloMosaic.Lib.Layout

@[expose] public section

noncomputable section

/-! ## The reference, entry by entry -/

namespace Cert.ReferenceIdeal.Normalized

open Idealize.ShloMosaic Cert.ReferenceIdeal Cert.ReferenceIdeal.Gen

/-- The reference's result, from its arguments. -/
abbrev normalized (x : FVec Ideal S4096x16384 .f32) (g : FVec Ideal S16384 .f32) : FVec Ideal S4096x16384 .f32 :=
  Host.divf (mulf (broadcastInDim S4096x16384 ![0, 1] bcast_S1x16384_S4096x16384_0_1 (broadcastInDim S1x16384 ![1] bcast_S16384_S1x16384_1 g)) x)
    (broadcastInDim S4096x16384 ![0, 1] bcast_S4096x1_S4096x16384_0_1 (Host.sqrt (addf
      (Host.divf (broadcastInDim S4096x1 ![0] bcast_S4096_S4096x1_0 (Host.reduceAdd (mulf x x) (constant S_ .f32 0x00000000#32) reducesTo_S4096x16384_S4096_d1 h_S_))
        (broadcastInDim S4096x1 ![] bcast_S_S4096x1 (constant S_ .f32 0x46800000#32)))
      (broadcastInDim S4096x1 ![] bcast_S_S4096x1 (constant S_ .f32 0x3727C5AC#32)))))

/-- The sum of the squares of row `r`. -/
def squares (x : FVec Ideal S4096x16384 .f32) (r : Fin 4096) : EReal := ∑ k : Fin 16384, x (ix2 r k) * x (ix2 r k)

/-- An entry of the reference's result. -/
theorem normalized_apply (x : FVec Ideal S4096x16384 .f32) (g : FVec Ideal S16384 .f32) (r : Fin 4096) (q : Fin 16384) :
    normalized x g (ix2 r q) = Ideal.div (g (ix1 q) * x (ix2 r q))
      (Ideal.sqrt (Ideal.div (squares x r) (Ideal.ofBits .f32 0x46800000#32) + Ideal.ofBits .f32 0x3727C5AC#32)) := by
  unfold normalized squares
  pointwise

end Cert.ReferenceIdeal.Normalized

namespace Cert.KernelIdeal.AllReduce

open Idealize.ShloMosaic Idealize.ShloMosaic.TcCoe Idealize.SL.Sem
open Cert.KernelIdeal Cert.KernelIdeal.Facts₀ Cert.KernelIdeal.Facts

/-! ## The scale -/

/-- The reciprocal root of the mean plus the small constant, from the sum of a row's squares. -/
def scale (s : EReal) : EReal := Ideal.rsqrt (s * Ideal.ofBits .f32 0x38800000#32 + Ideal.ofBits .f32 0x3727C5AC#32)

/-- The reference's divisor is 16384. -/
theorem width : Ideal.ofBits .f32 0x46800000#32 = ((16384 : ℝ) : EReal) := by
  simp [Ideal.ofBits, Ideal.ieee, -EReal.coe_mul]; norm_num

/-- The kernel's factor is 1/16384. -/
theorem width_inv : Ideal.ofBits .f32 0x38800000#32 = ((16384⁻¹ : ℝ) : EReal) := by
  simp [Ideal.ofBits, Ideal.ieee, -EReal.coe_mul]; norm_num

/-- The small constant is positive; here is its value. -/
theorem small : Ideal.ofBits .f32 0x3727C5AC#32 = ((10995116 / 1099511627776 : ℝ) : EReal) := by
  simp [Ideal.ofBits, Ideal.ieee, -EReal.coe_mul]; norm_num

/-- Dividing by 16384 is multiplying by 1/16384. -/
theorem div_width (s : EReal) : Ideal.div s (Ideal.ofBits .f32 0x46800000#32) = s * Ideal.ofBits .f32 0x38800000#32 := by
  rw [width, width_inv, Ideal.div, if_neg (by norm_num), EReal.coe_inv]

/-- Dividing by the root of a positive number is multiplying by its reciprocal root. -/
theorem div_sqrt (a t : EReal) (ht : 0 < t) : Ideal.div a (Ideal.sqrt t) = a * Ideal.rsqrt t := by
  induction t with
  | bot => exact absurd ht (by simp)
  | top =>
    have h1 : Ideal.sqrt ⊤ = ⊤ := rfl
    have h2 : Ideal.rsqrt ⊤ = 0 := rfl
    rw [h1, h2, Ideal.div, if_neg (by simp), EReal.inv_top]
  | coe r =>
    have hr : 0 < r := EReal.coe_pos.mp ht
    have hs : Real.sqrt r ≠ 0 := (Real.sqrt_pos.mpr hr).ne'
    have h1 : Ideal.sqrt (r : EReal) = (Real.sqrt r : EReal) := if_neg (not_lt.mpr hr.le)
    have h2 : Ideal.rsqrt (r : EReal) = ((Real.sqrt r)⁻¹ : ℝ) :=
      (if_neg (not_lt.mpr hr.le)).trans (if_neg hr.ne')
    rw [h1, h2, Ideal.div, if_neg (by exact_mod_cast hs), EReal.coe_inv]

/-- A square is not negative. -/
theorem square_nonneg (a : EReal) : 0 ≤ a * a := by
  induction a with
  | bot => simp
  | top => simp
  | coe r => exact_mod_cast mul_self_nonneg r

/-- The reference's division is the kernel's multiplication. -/
theorem div_scale (a s : EReal) (hs : 0 ≤ s) :
    Ideal.div a (Ideal.sqrt (Ideal.div s (Ideal.ofBits .f32 0x46800000#32) + Ideal.ofBits .f32 0x3727C5AC#32)) = a * scale s := by
  unfold scale
  rw [div_width]
  refine div_sqrt a _ ?_
  rw [small, width_inv]
  have hm : 0 ≤ s * ((16384⁻¹ : ℝ) : EReal) := mul_nonneg hs (by exact_mod_cast (by norm_num : (0 : ℝ) ≤ 16384⁻¹))
  exact lt_of_lt_of_le (EReal.coe_pos.mpr (by norm_num)) (le_add_of_nonneg_left hm)

/-! ## The payloads, entry by entry -/

/-- One row's sum of squares, of a block. -/
theorem sums_apply (x : Vec Ideal S1024x1024 .f32) (l : Fin 1024) : Gen.k0_pay1 x (ix2 0 l) = ∑ k : Fin 1024, x (ix2 l k) * x (ix2 l k) := by
  unfold Gen.k0_pay1
  pointwise

/-- The same at an index given by its column. -/
theorem sums_at (x : Vec Ideal S1024x1024 .f32) (i : S1x1024.Idx) (l : Fin 1024) (h : (i 1).val = l.val) :
    Gen.k0_pay1 x i = ∑ k : Fin 1024, x (ix2 l k) * x (ix2 l k) := by
  have hi : i = ix2 0 l := funext fun a => match a with
    | ⟨0, _⟩ => Fin.ext (Nat.lt_one_iff.mp (i 0).isLt)
    | ⟨1, _⟩ => Fin.ext h
  rw [hi]
  exact sums_apply x l

/-- The scale of a row below 3072, from all devices' sums. -/
theorem scale0_apply (v : Vec Ideal S16x3072 .f32) (l : Fin 3072) : Gen.k0_pay3 Gen.k0_pay2 v (ix2 l 0) = scale (∑ d : Fin 16, v (ix2 d l)) := by
  unfold Gen.k0_pay3 Gen.k0_pay2 scale
  pointwise

/-- The scale of a row from 3072 on, from all devices' sums. -/
theorem scale1_apply (v : Vec Ideal S16x1024 .f32) (l : Fin 1024) : Gen.k0_pay4 Gen.k0_pay2 v (ix2 l 0) = scale (∑ d : Fin 16, v (ix2 d l)) := by
  unfold Gen.k0_pay4 Gen.k0_pay2 scale
  pointwise

/-- An entry of the result. -/
theorem scaled_apply (x : Vec Ideal S4096x1024 .f32) (v : Vec Ideal S4096x1 .f32) (g : Vec Ideal S1x1024 .f32) (r : Fin 4096) (l : Fin 1024) :
    Gen.k1_pay1 x v g (ix2 r l) = x (ix2 r l) * v (ix2 r 0) * g (ix2 0 l) := by
  unfold Gen.k1_pay1
  pointwise

/-! ## The all-reduce, entry by entry -/

variable (X : Dev nD → FVec Ideal S4096x1024 .f32)

/-- A point's block begins at 1024 times the point's number. -/
theorem block_row (t : Fin grid0.N) : win0_0.index t 0 * win0_0.size 0 = 1024 * t.val := by revert t; decide +kernel
/-- A point's block begins at the first column. -/
theorem block_col (t : Fin grid0.N) : win0_0.index t 1 * win0_0.size 1 = 0 := by revert t; decide +kernel

/-- An entry of a block is an entry of the device's array. -/
theorem xblk_apply (d : Dev nD) (t : Fin grid0.N) (l k : Fin 1024) (j : Fin 4096) (hj : j.val = 1024 * t.val + l.val) :
    (xblk (F := Ideal) X d t (ix2 l k) : EReal) = X d (ix2 j k) := by
  unfold xblk
  refine congrArg (X d) (funext fun a => Fin.ext ?_)
  blk_simp
  match a with
  | ⟨0, _⟩ => exact (congrArg (· + l.val) (block_row t)).trans hj.symm
  | ⟨1, _⟩ => exact (congrArg (· + k.val) (block_col t)).trans (Nat.zero_add _)

/-- Row `d` of the exchange buffer holds the sums of squares of device `d`'s rows. -/
theorem G_apply (d : Dev nD) (j : Fin 4096) :
    (G (F := Ideal) X (ix2 d j : S16x4096.Idx) : EReal) = ∑ k : Fin 1024, X d (ix2 j k) * X d (ix2 j k) := by
  have hl : j.val % 1024 < 1024 := Nat.mod_lt _ (Nat.zero_lt_succ 1023)
  have h (k : Fin 1024) := xblk_apply X d (blkOf j.val) ⟨j.val % 1024, hl⟩ k j
    (by show j.val = 1024 * (j.val / 1024 % 4) + j.val % 1024; have := j.isLt; omega)
  have hs := sums_at (xblk (F := Ideal) X d (blkOf j.val)) (fun a => match a with
    | ⟨0, _⟩ => ⟨0, Nat.zero_lt_one⟩
    | ⟨1, _⟩ => ⟨j.val % 1024, hl⟩) ⟨j.val % 1024, hl⟩ rfl
  simp only [h] at hs
  exact hs

/-- The sum of the squares of row `j` over all the devices. -/
def total (j : Fin 4096) : EReal := ∑ d : Fin 16, ∑ k : Fin 1024, X d (ix2 j k) * X d (ix2 j k)

/-- What the all-reduce returns for row `j`: the scale from all devices' sums of squares. -/
theorem inv_apply (j : Fin 4096) : inv (F := Ideal) X (ix2 j 0 : S4096x1.Idx) = scale (total X j) := by
  have hG (i : S16x4096.Idx) (d : Fin 16) (h0 : (i 0).val = d.val) (h1 : (i 1).val = j.val) :
      (G (F := Ideal) X i : EReal) = ∑ k : Fin 1024, X d (ix2 j k) * X d (ix2 j k) := by
    have hi : i = (ix2 d j : S16x4096.Idx) := funext fun a => match a with
      | ⟨0, _⟩ => Fin.ext h0
      | ⟨1, _⟩ => Fin.ext h1
    exact (congrArg (G (F := Ideal) X) hi).trans (G_apply X d j)
  unfold inv
  by_cases h : j.val < 3072
  · rw [dif_pos (show ((ix2 j 0 : S4096x1.Idx) 0).val < 3072 from h)]
    refine Eq.trans (congrArg _ ?_) ((scale0_apply (sums0 X) ⟨j.val, h⟩).trans (congrArg scale (Finset.sum_congr rfl fun d _ => ?_)))
    · funext a
      match a with
      | ⟨0, _⟩ => rfl
      | ⟨1, _⟩ => rfl
    · exact hG _ d ((ValueKit.rect_emb_unit_val _ _ inb_S16x4096_S16x3072_0_0 _ 0).trans (Nat.zero_add _))
        ((ValueKit.rect_emb_unit_val _ _ inb_S16x4096_S16x3072_0_0 _ 1).trans (Nat.zero_add _))
  · rw [dif_neg (show ¬ ((ix2 j 0 : S4096x1.Idx) 0).val < 3072 from h)]
    have hj := j.isLt
    refine Eq.trans (congrArg _ ?_) ((scale1_apply (sums1 X) ⟨j.val - 3072, by omega⟩).trans (congrArg scale (Finset.sum_congr rfl fun d _ => ?_)))
    · funext a
      match a with
      | ⟨0, _⟩ => rfl
      | ⟨1, _⟩ => rfl
    · exact hG _ d ((ValueKit.rect_emb_unit_val _ _ inb_S16x4096_S16x1024_0_3072 _ 0).trans (Nat.zero_add _))
        ((ValueKit.rect_emb_unit_val _ _ inb_S16x4096_S16x1024_0_3072 _ 1).trans (show 3072 + (j.val - 3072) = j.val by omega))

/-! ## The result -/

variable (m : (ℓ : Loc nD τ sig) → Buf (Elt Ideal) ℓ)

/-- The weights as the scaling reads them. -/
theorem weights_apply (c : Dev nD) (l : Fin 1024) :
    (V1 m c main_v1 (ix2 0 l : S1x1024.Idx) : EReal) = m ((c.tc : Thread nD τ).loc main_arg1) (ix1 l : S1024.Idx) := by
  have h : V1 m c main_v1 = shapeCast S1x1024 (m ((c.tc : Thread nD τ).loc main_arg1)) shapeCasts_S1024_S1x1024 := by
    show StableHlo.after Gen.hostOps0 (Gen.V0 m c) (Proc.devRef .tc main_v1) = _
    after_results
    rfl
  rw [h]
  pointwise

/-- An entry of a device's result: its array's entry, times the row's scale, times the weight. -/
theorem result_apply (c : Dev nD) (r : Fin 4096) (l : Fin 1024) (x : Dev nD → FVec Ideal S4096x1024 .f32) (hx : ∀ d : Dev nD, m ((d.tc : Thread nD τ).loc main_arg0) = x d) :
    (result m c (ix2 r l : S4096x1024.Idx) : EReal)
      = x c (ix2 r l) * scale (total x r) * m ((c.tc : Thread nD τ).loc main_arg1) (ix1 l : S1024.Idx) := by
  unfold result
  refine (scaled_apply _ _ _ r l).trans ?_
  have hX : (fun d : Dev nD => m ((d.tc : Thread nD τ).loc main_arg0)) = x := funext hx
  rw [weights_apply m c l, hX, inv_apply x r, hx c]

/-- The whole array's column of column `l` of device `c`. -/
def colOf (c : Fin 16) (l : Fin 1024) : Fin 16384 := ⟨c.val * 1024 + l.val, by have := c.isLt; have := l.isLt; omega⟩

/-- Device `c`'s part of an array cut along the columns. -/
abbrev cols (c : Fin 16) (x : FVec Ideal Cert.ReferenceIdeal.S4096x16384 .f32) : FVec Ideal S4096x1024 .f32 :=
  Layout.block ⟨2, ![4096, 1024]⟩ ⟨2, ![4096, 16384]⟩ 1 16 c x

/-- An entry of device `c`'s columns is an entry of the whole array. -/
theorem cols_apply (c : Fin 16) (x : FVec Ideal Cert.ReferenceIdeal.S4096x16384 .f32) (r : Fin 4096) (l : Fin 1024) : cols c x (ix2 r l) = x (ix2 r (colOf c l)) :=
  congrArg x (funext fun a => match a with
    | ⟨0, _⟩ => rfl
    | ⟨1, _⟩ => rfl)

/-- Device `c`'s part of the weights. -/
abbrev part (c : Fin 16) (g : FVec Ideal Cert.ReferenceIdeal.S16384 .f32) : FVec Ideal S1024 .f32 :=
  Layout.block ⟨1, ![1024]⟩ ⟨1, ![16384]⟩ 0 16 c g

/-- A weight of device `c`'s part is one of all the weights. -/
theorem part_apply (c : Fin 16) (g : FVec Ideal Cert.ReferenceIdeal.S16384 .f32) (l : Fin 1024) : part c g (ix1 l) = g (ix1 (colOf c l)) :=
  congrArg g (funext fun a => match a with
    | ⟨0, _⟩ => rfl)

/-- The devices' sums of squares together are the whole row's. -/
theorem total_cols (x : FVec Ideal Cert.ReferenceIdeal.S4096x16384 .f32) (r : Fin 4096) :
    total (fun d => cols d x) r = Cert.ReferenceIdeal.Normalized.squares x r := by
  unfold total Cert.ReferenceIdeal.Normalized.squares
  rw [Fin.sum_univ_tiles 16 1024 rfl]
  refine Finset.sum_congr rfl fun d _ => Finset.sum_congr rfl fun k _ => ?_
  exact congrArg₂ (· * ·) (cols_apply d x r k) (cols_apply d x r k)

/-- A product of three, with the last factor put first. -/
theorem rotate (a b c : EReal) : a * b * c = c * a * b := by rw [mul_comm (a * b) c, ← mul_assoc]

/-- Every device's result is its part of the whole array's normalization. -/
theorem result_eq (x : FVec Ideal Cert.ReferenceIdeal.S4096x16384 .f32) (g : FVec Ideal Cert.ReferenceIdeal.S16384 .f32)
    (hx : ∀ d : Dev nD, m ((d.tc : Thread nD τ).loc main_arg0) = cols d x) (hg : ∀ d : Dev nD, m ((d.tc : Thread nD τ).loc main_arg1) = part d g) (c : Dev nD) :
    result m c = cols c (Cert.ReferenceIdeal.Normalized.normalized x g) := by
  funext i
  obtain ⟨r, l, rfl⟩ : ∃ (r : Fin 4096) (l : Fin 1024), i = (ix2 r l : S4096x1024.Idx) :=
    ⟨i 0, i 1, funext fun a => match a with | ⟨0, _⟩ => rfl | ⟨1, _⟩ => rfl⟩
  refine (result_apply m c r l (fun d => cols d x) hx).trans (Eq.trans ?_ (cols_apply c _ r l).symm)
  rw [hg c, part_apply, total_cols, cols_apply, Cert.ReferenceIdeal.Normalized.normalized_apply]
  have hs : 0 ≤ Cert.ReferenceIdeal.Normalized.squares x r := Finset.sum_nonneg fun k _ => square_nonneg _
  rw [div_scale _ _ hs]
  exact rotate _ _ _

end Cert.KernelIdeal.AllReduce

end
-- ==== Proof.lean ====
/-
  The certificate's claims, put together.
-/
module

public import proofs.«01_k».proof.Proof.Value
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import Idealize.ShloMosaic.Adequacy

@[expose] public section

noncomputable section

namespace Cert.Proof

open Idealize.ShloMosaic Idealize.SL.Sem

/-- Both printings have the same bodies. -/
theorem defs₀_eq : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | 0, _ => rfl
  | 1, _ => rfl
  | ⟨_ + 2, h⟩, _ => exact absurd h (Nat.not_lt.2 (Nat.le_add_left _ _))

/-- Both printings have the same definitions. -/
theorem defs_eq : Cert.Kernel.defs (F := Bits) = Cert.KernelIdeal.defs (F := Bits) :=
  congrArg (Pipeline.defs (Cert.KernelIdeal.pcfgs (F := Bits))) defs₀_eq

/-- The program as printed runs, changes no argument and leaves every semaphore at zero. -/
theorem quiescent_kernel : Cert.quiescent_Kernel := fun m ρ _ => by
  rw [defs_eq]
  exact Cert.KernelIdeal.AllReduce.run_frame (F := Bits) m ρ

/-- So does the program over the extended reals. -/
theorem quiescent_ideal : Cert.quiescent_KernelIdeal := fun m ρ _ => Cert.KernelIdeal.AllReduce.run_frame (F := Ideal) m ρ

/-- So does the reference. -/
theorem quiescent_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is its part of the reference's. -/
theorem algebraic : Cert.algebraic_KernelIdeal_ReferenceIdeal := fun m ρ m' ρ' _ hm =>
  ⟨_, (θ_run Cert.KernelIdeal.defs _ _).mono
      (fun _ h c => ⟨(h.1 c).2.2.trans (Cert.KernelIdeal.AllReduce.result_eq m _ _ (fun d => (hm d).1) (fun d => (hm d).2) c), (h.1 c).1, (h.1 c).2.1⟩)
      (Cert.KernelIdeal.AllReduce.run_main (F := Ideal) m ρ),
    (θ_run Cert.ReferenceIdeal.defs _ _).mono (fun _ h => h 0) (Cert.ReferenceIdeal.Value.run (F := Ideal) m' ρ')⟩

/-- The certificate. -/
theorem claim : Cert.Claim :=
  ⟨Cert.Kernel.Gen.facts, Cert.KernelIdeal.Gen.facts, Cert.ReferenceIdeal.Gen.facts,
    quiescent_kernel, quiescent_ideal, quiescent_reference, trivial, algebraic⟩

end Cert.Proof

end
